-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_in_range [hPre_boxes_in_range : Cert.Pre_boxes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_in_range [hPre_boxes_in_range : Cert.Pre_boxes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_in_range [hKernelIdeal : Cert.KernelIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_in_range [hReferenceIdeal : Cert.ReferenceIdeal.Facts] [hPre_boxes_in_range : Cert.Pre_boxes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_in_range [hKernelIdeal : Cert.KernelIdeal.Facts] [hReferenceIdeal : Cert.ReferenceIdeal.Facts] [hPre_boxes_in_range : Cert.Pre_boxes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_in_range : Cert.Pre_boxes_in_range.Facts),
    quiescent_Kernel (hKernel := hKernel)
    ∧ quiescent_KernelIdeal (hKernelIdeal := hKernelIdeal)
    ∧ quiescent_KernelIdeal_pre_boxes_in_range (hKernelIdeal := hKernelIdeal) (hPre_boxes_in_range := hPre_boxes_in_range)
    ∧ quiescent_ReferenceIdeal (hReferenceIdeal := hReferenceIdeal)
    ∧ quiescent_ReferenceIdeal_pre_boxes_in_range (hReferenceIdeal := hReferenceIdeal) (hPre_boxes_in_range := hPre_boxes_in_range)
    ∧ preserves_Kernel_KernelIdeal
    ∧ algebraic_KernelIdeal_ReferenceIdeal_pre_boxes_in_range (hKernelIdeal := hKernelIdeal) (hReferenceIdeal := hReferenceIdeal) (hPre_boxes_in_range := hPre_boxes_in_range)
-- ==== Pre_boxes_in_range.lean ====
abbrev S16x100000x5 : Shape := ⟨3, ![16, 100000, 5]⟩
abbrev S16x100000 : Shape := ⟨2, ![16, 100000]⟩
abbrev S16x100000x1 : Shape := ⟨3, ![16, 100000, 1]⟩
abbrev S_ : Shape := ⟨0, ![]⟩

class Facts : Prop where
  slices_S16x100000x5_S16x100000x1_0_0_0 : S16x100000x5.Slices ![0, 0, 0] S16x100000x1
  shapeCasts_S16x100000x1_S16x100000 : S16x100000x1.ShapeCasts S16x100000
  slices_S16x100000x5_S16x100000x1_0_0_2 : S16x100000x5.Slices ![0, 0, 2] S16x100000x1
  slices_S16x100000x5_S16x100000x1_0_0_3 : S16x100000x5.Slices ![0, 0, 3] S16x100000x1
  bcast_S_S16x100000 : S_.BroadcastsInDim S16x100000 (![] : Fin 0 → Fin S16x100000.rank)

variable [Facts]

def fn {F : FTy → Type} [FloatOps F] (main_arg0 : FVec F S16x100000x5 .f32) (main_arg1 : FVec F S16x100000 .f32) (main_arg2 : IVec S16x100000 32) : IVec S16x100000 1 :=
  let main_v0 : FVec F S16x100000x1 .f32 := (extractStridedSlice S16x100000x1 ![0, 0, 0] · slices_S16x100000x5_S16x100000x1_0_0_0) main_arg0
  let main_v1 : FVec F S16x100000 .f32 := shapeCast S16x100000 main_v0 shapeCasts_S16x100000x1_S16x100000
  let main_v2 : FVec F S16x100000x1 .f32 := (extractStridedSlice S16x100000x1 ![0, 0, 2] · slices_S16x100000x5_S16x100000x1_0_0_2) main_arg0
  let main_v3 : FVec F S16x100000 .f32 := shapeCast S16x100000 main_v2 shapeCasts_S16x100000x1_S16x100000
  let main_v4 : FVec F S16x100000x1 .f32 := (extractStridedSlice S16x100000x1 ![0, 0, 3] · slices_S16x100000x5_S16x100000x1_0_0_3) main_arg0
  let main_v5 : FVec F S16x100000 .f32 := shapeCast S16x100000 main_v4 shapeCasts_S16x100000x1_S16x100000
  let main_cst : FVec F S_ .f32 := constant S_ .f32 0x00000000#32
  let main_v6 : FVec F S16x100000 .f32 := broadcastInDim S16x100000 ![] bcast_S_S16x100000 main_cst
  let main_v7 : IVec S16x100000 1 := cmpf .oge main_v3 main_v6
  let main_cst_0 : FVec F S_ .f32 := constant S_ .f32 0x00000000#32
  let main_v8 : FVec F S16x100000 .f32 := broadcastInDim S16x100000 ![] bcast_S_S16x100000 main_cst_0
  let main_v9 : IVec S16x100000 1 := cmpf .oge main_v5 main_v8
  let main_v10 : IVec S16x100000 1 := andi main_v7 main_v9
  let main_v11 : FVec F S16x100000 .f32 := Host.absf main_v1
  let main_v12 : FVec F S16x100000 .f32 := addf main_v3 main_v5
  let main_cst_1 : FVec F S_ .f32 := constant S_ .f32 0x3F000000#32
  let main_v13 : FVec F S16x100000 .f32 := broadcastInDim S16x100000 ![] bcast_S_S16x100000 main_cst_1
  let main_v14 : FVec F S16x100000 .f32 := mulf main_v13 main_v12
  let main_v15 : FVec F S16x100000 .f32 := addf main_v11 main_v14
  let main_cst_2 : FVec F S_ .f32 := constant S_ .f32 0x47435000#32
  let main_v16 : FVec F S16x100000 .f32 := broadcastInDim S16x100000 ![] bcast_S_S16x100000 main_cst_2
  let main_v17 : IVec S16x100000 1 := cmpf .ole main_v15 main_v16
  let main_v18 : IVec S16x100000 1 := andi main_v10 main_v17
  main_v18
-- ==== Kernel.lean ====
abbrev S16x100000x5 : Shape := ⟨3, ![16, 100000, 5]⟩
abbrev S16x100000 : Shape := ⟨2, ![16, 100000]⟩
abbrev S_ : Shape := ⟨0, ![]⟩
abbrev S16x1000 : Shape := ⟨2, ![16, 1000]⟩
abbrev S16x1000x1 : Shape := ⟨3, ![16, 1000, 1]⟩
abbrev S1 : Shape := ⟨1, ![1]⟩
abbrev S1x1x1 : Shape := ⟨3, ![1, 1, 1]⟩
abbrev S16x1000x5 : Shape := ⟨3, ![16, 1000, 5]⟩
abbrev S16x1024 : Shape := ⟨2, ![16, 1024]⟩
abbrev S16x1024x5 : Shape := ⟨3, ![16, 1024, 5]⟩
abbrev S16x1024x1 : Shape := ⟨3, ![16, 1024, 1]⟩
abbrev S16x1024x8 : Shape := ⟨3, ![16, 1024, 8]⟩
abbrev S16x8x1024 : Shape := ⟨3, ![16, 8, 1024]⟩
abbrev S16x384x8 : Shape := ⟨3, ![16, 384, 8]⟩
abbrev S1x1024x8 : Shape := ⟨3, ![1, 1024, 8]⟩
abbrev S1x8x1024 : Shape := ⟨3, ![1, 8, 1024]⟩
abbrev S1x384x8 : Shape := ⟨3, ![1, 384, 8]⟩
abbrev S1024x8x128 : Shape := ⟨3, ![1024, 8, 128]⟩
abbrev S1024x8 : Shape := ⟨2, ![1024, 8]⟩
abbrev S8x1024 : Shape := ⟨2, ![8, 1024]⟩
abbrev S1024x1 : Shape := ⟨2, ![1024, 1]⟩
abbrev S1x1024 : Shape := ⟨2, ![1, 1024]⟩
abbrev S1024x1024 : Shape := ⟨2, ![1024, 1024]⟩
abbrev S8x128 : Shape := ⟨2, ![8, 128]⟩
abbrev S1x8x128 : Shape := ⟨3, ![1, 8, 128]⟩
abbrev S384x1 : Shape := ⟨2, ![384, 1]⟩
abbrev S384x1024 : Shape := ⟨2, ![384, 1024]⟩
abbrev S1024x6 : Shape := ⟨2, ![1024, 6]⟩
abbrev S384x8 : Shape := ⟨2, ![384, 8]⟩
abbrev S16x300x5 : Shape := ⟨3, ![16, 300, 5]⟩
abbrev S16x300x1 : Shape := ⟨3, ![16, 300, 1]⟩
abbrev S16x300 : Shape := ⟨2, ![16, 300]⟩

abbrev nBuf : Space → Nat
  | .hbm => 81
  | .vmem => 7
  | .smem => 0
  | _ => 0

abbrev bufTy : (tb : Table) → Fin (tcTables nBuf tb) → BufTy
  | .hbm, ⟨0, _⟩ => ⟨S16x100000x5, .f32⟩
  | .hbm, ⟨1, _⟩ => ⟨S16x100000, .f32⟩
  | .hbm, ⟨2, _⟩ => ⟨S16x100000, .i32⟩
  | .hbm, ⟨3, _⟩ => ⟨S_, .f32⟩
  | .hbm, ⟨4, _⟩ => ⟨S16x100000, .f32⟩
  | .hbm, ⟨5, _⟩ => ⟨S16x100000, .i1⟩
  | .hbm, ⟨6, _⟩ => ⟨S_, .f32⟩
  | .hbm, ⟨7, _⟩ => ⟨S_, .f32⟩
  | .hbm, ⟨8, _⟩ => ⟨S16x100000, .f32⟩
  | .hbm, ⟨9, _⟩ => ⟨S16x100000, .f32⟩
  | .hbm, ⟨10, _⟩ => ⟨S16x1000, .f32⟩
  | .hbm, ⟨11, _⟩ => ⟨S16x1000, .i32⟩
  | .hbm, ⟨12, _⟩ => ⟨S16x1000x1, .i32⟩
  | .hbm, ⟨13, _⟩ => ⟨S_, .i32⟩
  | .hbm, ⟨14, _⟩ => ⟨S16x1000x1, .i32⟩
  | .hbm, ⟨15, _⟩ => ⟨S16x1000x1, .i1⟩
  | .hbm, ⟨16, _⟩ => ⟨S_, .i32⟩
  | .hbm, ⟨17, _⟩ => ⟨S16x1000x1, .i32⟩
  | .hbm, ⟨18, _⟩ => ⟨S16x1000x1, .i32⟩
  | .hbm, ⟨19, _⟩ => ⟨S16x1000x1, .i32⟩
  | .hbm, ⟨20, _⟩ => ⟨S1, .i32⟩
  | .hbm, ⟨21, _⟩ => ⟨S_, .i32⟩
  | .hbm, ⟨22, _⟩ => ⟨S16x1000x1, .i32⟩
  | .hbm, ⟨23, _⟩ => ⟨S16x1000x1, .i1⟩
  | .hbm, ⟨24, _⟩ => ⟨S1x1x1, .i32⟩
  | .hbm, ⟨25, _⟩ => ⟨S16x1000x1, .i32⟩
  | .hbm, ⟨26, _⟩ => ⟨S16x1000x1, .i1⟩
  | .hbm, ⟨27, _⟩ => ⟨S16x1000x1, .i1⟩
  | .hbm, ⟨28, _⟩ => ⟨S_, .i1⟩
  | .hbm, ⟨29, _⟩ => ⟨S16x1000, .i1⟩
  | .hbm, ⟨30, _⟩ => ⟨S16x1000x5, .f32⟩
  | .hbm, ⟨31, _⟩ => ⟨S16x1000x5, .i1⟩
  | .hbm, ⟨32, _⟩ => ⟨S_, .f32⟩
  | .hbm, ⟨33, _⟩ => ⟨S16x1000x5, .f32⟩
  | .hbm, ⟨34, _⟩ => ⟨S16x1000x5, .f32⟩
  | .hbm, ⟨35, _⟩ => ⟨S_, .i32⟩
  | .hbm, ⟨36, _⟩ => ⟨S16x1000, .i32⟩
  | .hbm, ⟨37, _⟩ => ⟨S16x1000, .i1⟩
  | .hbm, ⟨38, _⟩ => ⟨S_, .i32⟩
  | .hbm, ⟨39, _⟩ => ⟨S16x1000, .i32⟩
  | .hbm, ⟨40, _⟩ => ⟨S16x1000, .i32⟩
  | .hbm, ⟨41, _⟩ => ⟨S16x1000, .i32⟩
  | .hbm, ⟨42, _⟩ => ⟨S16x1000x1, .i32⟩
  | .hbm, ⟨43, _⟩ => ⟨S1, .i32⟩
  | .hbm, ⟨44, _⟩ => ⟨S_, .i32⟩
  | .hbm, ⟨45, _⟩ => ⟨S16x1000x1, .i32⟩
  | .hbm, ⟨46, _⟩ => ⟨S16x1000x1, .i1⟩
  | .hbm, ⟨47, _⟩ => ⟨S1x1x1, .i32⟩
  | .hbm, ⟨48, _⟩ => ⟨S16x1000x1, .i32⟩
  | .hbm, ⟨49, _⟩ => ⟨S16x1000x1, .i1⟩
  | .hbm, ⟨50, _⟩ => ⟨S16x1000x1, .i1⟩
  | .hbm, ⟨51, _⟩ => ⟨S_, .i1⟩
  | .hbm, ⟨52, _⟩ => ⟨S16x1000, .i1⟩
  | .hbm, ⟨53, _⟩ => ⟨S16x1000, .i32⟩
  | .hbm, ⟨54, _⟩ => ⟨S_, .i32⟩
  | .hbm, ⟨55, _⟩ => ⟨S16x1000, .i32⟩
  | .hbm, ⟨56, _⟩ => ⟨S16x1000, .i32⟩
  | .hbm, ⟨57, _⟩ => ⟨S_, .f32⟩
  | .hbm, ⟨58, _⟩ => ⟨S_, .f32⟩
  | .hbm, ⟨59, _⟩ => ⟨S16x1024, .f32⟩
  | .hbm, ⟨60, _⟩ => ⟨S_, .i32⟩
  | .hbm, ⟨61, _⟩ => ⟨S_, .f32⟩
  | .hbm, ⟨62, _⟩ => ⟨S16x1024x5, .f32⟩
  | .hbm, ⟨63, _⟩ => ⟨S_, .i32⟩
  | .hbm, ⟨64, _⟩ => ⟨S_, .i32⟩
  | .hbm, ⟨65, _⟩ => ⟨S16x1024, .i32⟩
  | .hbm, ⟨66, _⟩ => ⟨S16x1024x1, .f32⟩
  | .hbm, ⟨67, _⟩ => ⟨S16x1024x1, .i32⟩
  | .hbm, ⟨68, _⟩ => ⟨S16x1024x1, .f32⟩
  | .hbm, ⟨69, _⟩ => ⟨S_, .f32⟩
  | .hbm, ⟨70, _⟩ => ⟨S16x1024x1, .f32⟩
  | .hbm, ⟨71, _⟩ => ⟨S16x1024x8, .f32⟩
  | .hbm, ⟨72, _⟩ => ⟨S16x8x1024, .f32⟩
  | .hbm, ⟨73, _⟩ => ⟨S16x384x8, .f32⟩
  | .hbm, ⟨74, _⟩ => ⟨S16x300x5, .f32⟩
  | .hbm, ⟨75, _⟩ => ⟨S16x300x1, .f32⟩
  | .hbm, ⟨76, _⟩ => ⟨S16x300, .f32⟩
  | .hbm, ⟨77, _⟩ => ⟨S16x300x1, .f32⟩
  | .hbm, ⟨78, _⟩ => ⟨S16x300, .f32⟩
  | .hbm, ⟨79, _⟩ => ⟨S16x300, .f32⟩
  | .hbm, ⟨80, _⟩ => ⟨S16x300, .i32⟩
  | .local _ .vmem, ⟨0, _⟩ => ⟨S1x1024x8, .f32⟩
  | .local _ .vmem, ⟨1, _⟩ => ⟨S1x1024x8, .f32⟩
  | .local _ .vmem, ⟨2, _⟩ => ⟨S1x8x1024, .f32⟩
  | .local _ .vmem, ⟨3, _⟩ => ⟨S1x8x1024, .f32⟩
  | .local _ .vmem, ⟨4, _⟩ => ⟨S1x384x8, .f32⟩
  | .local _ .vmem, ⟨5, _⟩ => ⟨S1x384x8, .f32⟩
  | .local _ .vmem, ⟨6, _⟩ => ⟨S1024x8x128, .f32⟩
  | _, _ => ⟨S16x100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_v3 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_c_2 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_c_3 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v4 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_c_4 : Ref sig .tc := ⟨.hbm, 54, rfl⟩
abbrev main_call2_v14 : Ref sig .tc := ⟨.hbm, 55, rfl⟩
abbrev main_v5 : Ref sig .tc := ⟨.hbm, 56, rfl⟩
abbrev main_cst_1 : Ref sig .tc := ⟨.hbm, 57, rfl⟩
abbrev main_call3_v0 : Ref sig .tc := ⟨.hbm, 58, rfl⟩
abbrev main_v6 : Ref sig .tc := ⟨.hbm, 59, rfl⟩
abbrev main_c : Ref sig .tc := ⟨.hbm, 60, rfl⟩
abbrev main_call4_v0 : Ref sig .tc := ⟨.hbm, 61, rfl⟩
abbrev main_v7 : Ref sig .tc := ⟨.hbm, 62, rfl⟩
abbrev main_c_2 : Ref sig .tc := ⟨.hbm, 63, rfl⟩
abbrev main_call5_v0 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_cst_3 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c1024_i32 : BitVec 32 := 1024#32
  let v107 : BitVec 32 := Scalar.addi c0_i32 c1024_i32
  let c1_i32 : BitVec 32 := 1#32
  ⟨c0_i32, v107, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v151 : Index := Scalar.indexCast arg5
  let c0_31 : Index := 0#32
  let c0_32 : Index := 0#32
  ![v151.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x100000x5 : Shape := ⟨3, ![16, 100000, 5]⟩
abbrev S16x100000 : Shape := ⟨2, ![16, 100000]⟩
abbrev S_ : Shape := ⟨0, ![]⟩
abbrev S16x1000 : Shape := ⟨2, ![16, 1000]⟩
abbrev S16x1000x1 : Shape := ⟨3, ![16, 1000, 1]⟩
abbrev S1 : Shape := ⟨1, ![1]⟩
abbrev S1x1x1 : Shape := ⟨3, ![1, 1, 1]⟩
abbrev S16x1000x5 : Shape := ⟨3, ![16, 1000, 5]⟩
abbrev S16x1x1000 : Shape := ⟨3, ![16, 1, 1000]⟩
abbrev S16x1000x1000 : Shape := ⟨3, ![16, 1000, 1000]⟩
abbrev S1000 : Shape := ⟨1, ![1000]⟩
abbrev S16x1 : Shape := ⟨2, ![16, 1]⟩
abbrev S1x1000 : Shape := ⟨2, ![1, 1000]⟩
abbrev S16x300 : Shape := ⟨2, ![16, 300]⟩
abbrev S16x300x1 : Shape := ⟨3, ![16, 300, 1]⟩
abbrev S16x300x5 : Shape := ⟨3, ![16, 300, 5]⟩

abbrev nBuf : Space → Nat
  | .hbm => 262
  | .vmem => 0
  | .smem => 0
  | _ => 0

abbrev hbmTy0_0 (i : Nat) : BufTy := match i % 128 with
  | 0 => ⟨S16x100000x5, .f32⟩
  | 1 => ⟨S16x100000, .f32⟩
  | 2 => ⟨S16x100000, .i32⟩
  | 3 => ⟨S_, .f32⟩
  | 4 => ⟨S16x100000, .f32⟩
  | 5 => ⟨S16x100000, .i1⟩
  | 6 => ⟨S_, .f32⟩
  | 7 => ⟨S_, .f32⟩
  | 8 => ⟨S16x100000, .f32⟩
  | 9 => ⟨S16x100000, .f32⟩
  | 10 => ⟨S16x1000, .f32⟩
  | 11 => ⟨S16x1000, .i32⟩
  | 12 => ⟨S16x1000x1, .i32⟩
  | 13 => ⟨S_, .i32⟩
  | 14 => ⟨S16x1000x1, .i32⟩
  | 15 => ⟨S16x1000x1, .i1⟩
  | 16 => ⟨S_, .i32⟩
  | 17 => ⟨S16x1000x1, .i32⟩
  | 18 => ⟨S16x1000x1, .i32⟩
  | 19 => ⟨S16x1000x1, .i32⟩
  | 20 => ⟨S1, .i32⟩
  | 21 => ⟨S_, .i32⟩
  | 22 => ⟨S16x1000x1, .i32⟩
  | 23 => ⟨S16x1000x1, .i1⟩
  | 24 => ⟨S1x1x1, .i32⟩
  | 25 => ⟨S16x1000x1, .i32⟩
  | 26 => ⟨S16x1000x1, .i1⟩
  | 27 => ⟨S16x1000x1, .i1⟩
  | 28 => ⟨S_, .i1⟩
  | 29 => ⟨S16x1000, .i1⟩
  | 30 => ⟨S16x1000x5, .f32⟩
  | 31 => ⟨S16x1000x5, .i1⟩
  | 32 => ⟨S_, .f32⟩
  | 33 => ⟨S16x1000x5, .f32⟩
  | 34 => ⟨S16x1000x5, .f32⟩
  | 35 => ⟨S_, .i32⟩
  | 36 => ⟨S16x1000, .i32⟩
  | 37 => ⟨S16x1000, .i1⟩
  | 38 => ⟨S_, .i32⟩
  | 39 => ⟨S16x1000, .i32⟩
  | 40 => ⟨S16x1000, .i32⟩
  | 41 => ⟨S16x1000, .i32⟩
  | 42 => ⟨S16x1000x1, .i32⟩
  | 43 => ⟨S1, .i32⟩
  | 44 => ⟨S_, .i32⟩
  | 45 => ⟨S16x1000x1, .i32⟩
  | 46 => ⟨S16x1000x1, .i1⟩
  | 47 => ⟨S1x1x1, .i32⟩
  | 48 => ⟨S16x1000x1, .i32⟩
  | 49 => ⟨S16x1000x1, .i1⟩
  | 50 => ⟨S16x1000x1, .i1⟩
  | 51 => ⟨S_, .i1⟩
  | 52 => ⟨S16x1000, .i1⟩
  | 53 => ⟨S16x1000, .i32⟩
  | 54 => ⟨S_, .i32⟩
  | 55 => ⟨S16x1000, .i32⟩
  | 56 => ⟨S16x1000, .i32⟩
  | 57 => ⟨S_, .f32⟩
  | 58 => ⟨S16x1000, .f32⟩
  | 59 => ⟨S16x1000, .i1⟩
  | 60 => ⟨S16x1000x1, .f32⟩
  | 61 => ⟨S16x1000, .f32⟩
  | 62 => ⟨S16x1000x1, .f32⟩
  | 63 => ⟨S16x1000, .f32⟩
  | 64 => ⟨S16x1000x1, .f32⟩
  | 65 => ⟨S16x1000, .f32⟩
  | 66 => ⟨S16x1000x1, .f32⟩
  | 67 => ⟨S16x1000, .f32⟩
  | 68 => ⟨S16x1000x1, .f32⟩
  | 69 => ⟨S16x1000, .f32⟩
  | 70 => ⟨S16x1000, .f32⟩
  | 71 => ⟨S16x1000, .f32⟩
  | 72 => ⟨S16x1000, .f32⟩
  | 73 => ⟨S16x1000, .f32⟩
  | 74 => ⟨S16x1000, .f32⟩
  | 75 => ⟨S16x1000, .f32⟩
  | 76 => ⟨S16x1000, .f32⟩
  | 77 => ⟨S_, .f32⟩
  | 78 => ⟨S16x1000, .f32⟩
  | 79 => ⟨S16x1000, .f32⟩
  | 80 => ⟨S16x1000, .f32⟩
  | 81 => ⟨S16x1000, .f32⟩
  | 82 => ⟨S16x1000, .f32⟩
  | 83 => ⟨S16x1000, .f32⟩
  | 84 => ⟨S16x1000, .f32⟩
  | 85 => ⟨S16x1000, .f32⟩
  | 86 => ⟨S16x1000, .f32⟩
  | 87 => ⟨S_, .f32⟩
  | 88 => ⟨S16x1000, .f32⟩
  | 89 => ⟨S16x1000, .f32⟩
  | 90 => ⟨S16x1000, .f32⟩
  | 91 => ⟨S_, .f32⟩
  | 92 => ⟨S16x1000, .f32⟩
  | 93 => ⟨S16x1000, .f32⟩
  | 94 => ⟨S16x1000, .f32⟩
  | 95 => ⟨S16x1000, .f32⟩
  | 96 => ⟨S16x1000, .f32⟩
  | 97 => ⟨S16x1000, .f32⟩
  | 98 => ⟨S16x1000, .f32⟩
  | 99 => ⟨S16x1000, .f32⟩
  | 100 => ⟨S16x1000x1, .f32⟩
  | 101 => ⟨S16x1x1000, .f32⟩
  | 102 => ⟨S16x1000x1000, .f32⟩
  | 103 => ⟨S16x1000x1000, .f32⟩
  | 104 => ⟨S16x1000x1000, .f32⟩
  | 105 => ⟨S16x1000x1, .f32⟩
  | 106 => ⟨S16x1x1000, .f32⟩
  | 107 => ⟨S16x1000x1000, .f32⟩
  | 108 => ⟨S16x1000x1000, .f32⟩
  | 109 => ⟨S16x1000x1000, .f32⟩
  | 110 => ⟨S16x1000x1, .f32⟩
  | 111 => ⟨S16x1x1000, .f32⟩
  | 112 => ⟨S16x1000x1000, .f32⟩
  | 113 => ⟨S16x1000x1000, .f32⟩
  | 114 => ⟨S16x1000x1000, .f32⟩
  | 115 => ⟨S16x1000x1, .f32⟩
  | 116 => ⟨S16x1x1000, .f32⟩
  | 117 => ⟨S16x1000x1000, .f32⟩
  | 118 => ⟨S16x1000x1000, .f32⟩
  | 119 => ⟨S16x1000x1000, .f32⟩
  | 120 => ⟨S16x1000x1000, .f32⟩
  | 121 => ⟨S_, .f32⟩
  | 122 => ⟨S_, .f32⟩
  | 123 => ⟨S16x1000x1000, .f32⟩
  | 124 => ⟨S16x1000x1000, .f32⟩
  | 125 => ⟨S16x1000x1000, .f32⟩
  | 126 => ⟨S_, .f32⟩
  | 127 => ⟨S_, .f32⟩
  | _ => ⟨S16x100000x5, .f32⟩

abbrev hbmTy0_1 (i : Nat) : BufTy := match i % 128 with
  | 0 => ⟨S16x1000x1000, .f32⟩
  | 1 => ⟨S16x1000x1000, .f32⟩
  | 2 => ⟨S16x1000x1000, .f32⟩
  | 3 => ⟨S16x1000, .f32⟩
  | 4 => ⟨S16x1000, .f32⟩
  | 5 => ⟨S16x1000, .f32⟩
  | 6 => ⟨S16x1000x1, .f32⟩
  | 7 => ⟨S16x1x1000, .f32⟩
  | 8 => ⟨S16x1000x1000, .f32⟩
  | 9 => ⟨S16x1000x1000, .f32⟩
  | 10 => ⟨S16x1000x1000, .f32⟩
  | 11 => ⟨S16x1000x1000, .f32⟩
  | 12 => ⟨S_, .f32⟩
  | 13 => ⟨S16x1000x1000, .f32⟩
  | 14 => ⟨S16x1000x1000, .f32⟩
  | 15 => ⟨S16x1000x1000, .f32⟩
  | 16 => ⟨S1000, .i32⟩
  | 17 => ⟨S_, .i1⟩
  | 18 => ⟨S16x1000, .i1⟩
  | 19 => ⟨S_, .i32⟩
  | 20 => ⟨S_, .i32⟩
  | 21 => ⟨S16x1000, .i1⟩
  | 22 => ⟨S16x1000x1000, .f32⟩
  | 23 => ⟨S1000, .i32⟩
  | 24 => ⟨S_, .i32⟩
  | 25 => ⟨S_, .i32⟩
  | 26 => ⟨S16x1000, .i1⟩
  | 27 => ⟨S_, .i32⟩
  | 28 => ⟨S_, .i1⟩
  | 29 => ⟨S_, .i32⟩
  | 30 => ⟨S_, .i32⟩
  | 31 => ⟨S16x1000, .i1⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S16x1, .i1⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S16x1x1000, .f32⟩
  | 49 => ⟨S16x1000, .f32⟩
  | 50 => ⟨S_, .f32⟩
  | 51 => ⟨S16x1000, .f32⟩
  | 52 => ⟨S16x1000, .i1⟩
  | 53 => ⟨S_, .i32⟩
  | 54 => ⟨S1000, .i32⟩
  | 55 => ⟨S1000, .i1⟩
  | 56 => ⟨S1x1000, .i1⟩
  | 57 => ⟨S16x1000, .i1⟩
  | 58 => ⟨S16x1000, .i1⟩
  | 59 => ⟨S16x1000, .i1⟩
  | 60 => ⟨S16x1000, .i1⟩
  | 61 => ⟨S16x1000, .i1⟩
  | 62 => ⟨S16x1000, .i1⟩
  | 63 => ⟨S_, .i32⟩
  | 64 => ⟨S_, .i32⟩
  | 65 => ⟨S16x1000, .i1⟩
  | 66 => ⟨S_, .f32⟩
  | 67 => ⟨S_, .f32⟩
  | 68 => ⟨S16x1000, .f32⟩
  | 69 => ⟨S16x1000, .f32⟩
  | 70 => ⟨S16x300, .f32⟩
  | 71 => ⟨S16x300, .i32⟩
  | 72 => ⟨S_, .f32⟩
  | 73 => ⟨S16x300, .f32⟩
  | 74 => ⟨S16x300, .i1⟩
  | 75 => ⟨S16x300x1, .i1⟩
  | 76 => ⟨S16x300x1, .i32⟩
  | 77 => ⟨S_, .i32⟩
  | 78 => ⟨S16x300x1, .i32⟩
  | 79 => ⟨S16x300x1, .i1⟩
  | 80 => ⟨S_, .i32⟩
  | 81 => ⟨S16x300x1, .i32⟩
  | 82 => ⟨S16x300x1, .i32⟩
  | 83 => ⟨S16x300x1, .i32⟩
  | 84 => ⟨S1, .i32⟩
  | 85 => ⟨S_, .i32⟩
  | 86 => ⟨S16x300x1, .i32⟩
  | 87 => ⟨S16x300x1, .i1⟩
  | 88 => ⟨S1x1x1, .i32⟩
  | 89 => ⟨S16x300x1, .i32⟩
  | 90 => ⟨S16x300x1, .i1⟩
  | 91 => ⟨S16x300x1, .i1⟩
  | 92 => ⟨S_, .i1⟩
  | 93 => ⟨S16x300, .i1⟩
  | 94 => ⟨S16x300x5, .f32⟩
  | 95 => ⟨S16x300x5, .i1⟩
  | 96 => ⟨S_, .f32⟩
  | 97 => ⟨S16x300x5, .f32⟩
  | 98 => ⟨S16x300x5, .f32⟩
  | 99 => ⟨S_, .f32⟩
  | 100 => ⟨S_, .f32⟩
  | 101 => ⟨S16x300x5, .i1⟩
  | 102 => ⟨S16x300x5, .f32⟩
  | 103 => ⟨S16x300x5, .f32⟩
  | 104 => ⟨S_, .f32⟩
  | 105 => ⟨S_, .f32⟩
  | 106 => ⟨S16x300, .f32⟩
  | 107 => ⟨S16x300, .f32⟩
  | 108 => ⟨S_, .i32⟩
  | 109 => ⟨S16x300, .i32⟩
  | 110 => ⟨S16x300, .i1⟩
  | 111 => ⟨S_, .i32⟩
  | 112 => ⟨S16x300, .i32⟩
  | 113 => ⟨S16x300, .i32⟩
  | 114 => ⟨S16x300, .i32⟩
  | 115 => ⟨S16x300x1, .i32⟩
  | 116 => ⟨S1, .i32⟩
  | 117 => ⟨S_, .i32⟩
  | 118 => ⟨S16x300x1, .i32⟩
  | 119 => ⟨S16x300x1, .i1⟩
  | 120 => ⟨S1x1x1, .i32⟩
  | 121 => ⟨S16x300x1, .i32⟩
  | 122 => ⟨S16x300x1, .i1⟩
  | 123 => ⟨S16x300x1, .i1⟩
  | 124 => ⟨S_, .i1⟩
  | 125 => ⟨S16x300, .i1⟩
  | 126 => ⟨S16x300, .i32⟩
  | 127 => ⟨S_, .i32⟩
  | _ => ⟨S16x100000x5, .f32⟩

abbrev hbmTy0_2 (i : Nat) : BufTy := match i % 128 with
  | 0 => ⟨S16x300, .i32⟩
  | 1 => ⟨S16x300, .i32⟩
  | 2 => ⟨S_, .i32⟩
  | 3 => ⟨S_, .i32⟩
  | 4 => ⟨S16x300, .i32⟩
  | 5 => ⟨S16x300, .i32⟩
  | _ => ⟨S16x100000x5, .f32⟩

abbrev hbmTy (i : Nat) : BufTy := match i / 128 with
  | 0 => hbmTy0_0 i
  | 1 => hbmTy0_1 i
  | 2 => hbmTy0_2 i
  | _ => ⟨S16x100000x5, .f32⟩

abbrev bufTy : (tb : Table) → Fin (tcTables nBuf tb) → BufTy
  | .hbm, ⟨i, _⟩ => hbmTy i
  | _, _ => ⟨S16x100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_v3 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_c_1 : Ref sig .tc := ⟨.hbm, 20, rfl⟩
abbrev main_call1_c_2 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_c_3 : Ref sig .tc := ⟨.hbm, 28, rfl⟩
abbrev main_call1_v11 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v4 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_c_4 : Ref sig .tc := ⟨.hbm, 54, rfl⟩
abbrev main_call2_v14 : Ref sig .tc := ⟨.hbm, 55, rfl⟩
abbrev main_v5 : Ref sig .tc := ⟨.hbm, 56, rfl⟩
abbrev main_cst_1 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_2 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_cst_3 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_4 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_cst_5 : Ref sig .tc := ⟨.hbm, 121, rfl⟩
abbrev main_call3_v0 : Ref sig .tc := ⟨.hbm, 122, rfl⟩
abbrev main_call3_v1 : Ref sig .tc := ⟨.hbm, 123, rfl⟩
abbrev main_v66 : Ref sig .tc := ⟨.hbm, 124, rfl⟩
abbrev main_v67 : Ref sig .tc := ⟨.hbm, 125, rfl⟩
abbrev main_cst_6 : Ref sig .tc := ⟨.hbm, 126, rfl⟩
abbrev main_call4_v0 : Ref sig .tc := ⟨.hbm, 127, rfl⟩
abbrev main_call4_v1 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_7 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_c : Ref sig .tc := ⟨.hbm, 145, rfl⟩
abbrev main_v83 : Ref sig .tc := ⟨.hbm, 146, rfl⟩
abbrev main_c_8 : Ref sig .tc := ⟨.hbm, 147, rfl⟩
abbrev main_c_9 : Ref sig .tc := ⟨.hbm, 148, rfl⟩
abbrev main_v84_0 : Ref sig .tc := ⟨.hbm, 149, rfl⟩
abbrev main_v84_1 : Ref sig .tc := ⟨.hbm, 150, rfl⟩
abbrev main_v84_2 : Ref sig .tc := ⟨.hbm, 151, rfl⟩
abbrev main_v84_3 : Ref sig .tc := ⟨.hbm, 152, rfl⟩
abbrev main_v84_4 : Ref sig .tc := ⟨.hbm, 153, rfl⟩
abbrev main_v84_5 : Ref sig .tc := ⟨.hbm, 154, rfl⟩
abbrev main_while0c_c_22 : Ref sig .tc := ⟨.hbm, 155, rfl⟩
abbrev main_while0c_v96 : Ref sig .tc := ⟨.hbm, 156, rfl⟩
abbrev main_while0b_c_22 : Ref sig .tc := ⟨.hbm, 157, rfl⟩
abbrev main_while0b_v96 : Ref sig .tc := ⟨.hbm, 158, rfl⟩
abbrev main_while0b_v97 : Ref sig .tc := ⟨.hbm, 159, rfl⟩
abbrev main_while0b_c_23 : Ref sig .tc := ⟨.hbm, 160, rfl⟩
abbrev main_while0b_v98 : Ref sig .tc := ⟨.hbm, 161, rfl⟩
abbrev main_while0b_v99 : Ref sig .tc := ⟨.hbm, 162, rfl⟩
abbrev main_while0b_c_24 : Ref sig .tc := ⟨.hbm, 163, rfl⟩
abbrev main_while0b_v100 : Ref sig .tc := ⟨.hbm, 164, rfl⟩
abbrev main_while0b_v101 : Ref sig .tc := ⟨.hbm, 165, rfl⟩
abbrev main_while0b_c_25 : Ref sig .tc := ⟨.hbm, 166, rfl⟩
abbrev main_while0b_v102 : Ref sig .tc := ⟨.hbm, 167, rfl⟩
abbrev main_while0b_call5_c : Ref sig .tc := ⟨.hbm, 168, rfl⟩
abbrev main_while0b_call5_v0 : Ref sig .tc := ⟨.hbm, 169, rfl⟩
abbrev main_while0b_call5_v1 : Ref sig .tc := ⟨.hbm, 170, rfl⟩
abbrev main_while0b_call5_c_0 : Ref sig .tc := ⟨.hbm, 171, rfl⟩
abbrev main_while0b_call5_v2 : Ref sig .tc := ⟨.hbm, 172, rfl⟩
abbrev main_while0b_call5_v3 : Ref sig .tc := ⟨.hbm, 173, rfl⟩
abbrev main_while0b_call5_c_1 : Ref sig .tc := ⟨.hbm, 174, rfl⟩
abbrev main_while0b_call5_c_2 : Ref sig .tc := ⟨.hbm, 175, rfl⟩
abbrev main_while0b_call5_v4 : Ref sig .tc := ⟨.hbm, 176, rfl⟩
abbrev main_while0b_v103 : Ref sig .tc := ⟨.hbm, 177, rfl⟩
abbrev main_while0b_cst_26 : Ref sig .tc := ⟨.hbm, 178, rfl⟩
abbrev main_while0b_v104 : Ref sig .tc := ⟨.hbm, 179, rfl⟩
abbrev main_while0b_v105 : Ref sig .tc := ⟨.hbm, 180, rfl⟩
abbrev main_while0b_v106 : Ref sig .tc := ⟨.hbm, 181, rfl⟩
abbrev main_while0b_v107 : Ref sig .tc := ⟨.hbm, 182, rfl⟩
abbrev main_while0b_v108 : Ref sig .tc := ⟨.hbm, 183, rfl⟩
abbrev main_while0b_v109 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_call6_v0 : Ref sig .tc := ⟨.hbm, 189, rfl⟩
abbrev main_while0b_v114 : Ref sig .tc := ⟨.hbm, 190, rfl⟩
abbrev main_while0b_c_27 : Ref sig .tc := ⟨.hbm, 191, rfl⟩
abbrev main_while0b_v115 : Ref sig .tc := ⟨.hbm, 192, rfl⟩
abbrev main_v85 : Ref sig .tc := ⟨.hbm, 193, rfl⟩
abbrev main_cst_10 : Ref sig .tc := ⟨.hbm, 194, rfl⟩
abbrev main_call7_v0 : Ref sig .tc := ⟨.hbm, 195, rfl⟩
abbrev main_call7_v1 : Ref sig .tc := ⟨.hbm, 196, rfl⟩
abbrev main_v86 : Ref sig .tc := ⟨.hbm, 197, rfl⟩
abbrev main_values_11 : Ref sig .tc := ⟨.hbm, 198, rfl⟩
abbrev main_indices_12 : Ref sig .tc := ⟨.hbm, 199, rfl⟩
abbrev main_cst_13 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_call8_c : Ref sig .tc := ⟨.hbm, 205, rfl⟩
abbrev main_call8_v0 : Ref sig .tc := ⟨.hbm, 206, rfl⟩
abbrev main_call8_v1 : Ref sig .tc := ⟨.hbm, 207, rfl⟩
abbrev main_call8_c_0 : Ref sig .tc := ⟨.hbm, 208, rfl⟩
abbrev main_call8_v2 : Ref sig .tc := ⟨.hbm, 209, rfl⟩
abbrev main_call8_v3 : Ref sig .tc := ⟨.hbm, 210, rfl⟩
abbrev main_call8_v4 : Ref sig .tc := ⟨.hbm, 211, rfl⟩
abbrev main_call8_c_1 : Ref sig .tc := ⟨.hbm, 212, rfl⟩
abbrev main_call8_c_2 : Ref sig .tc := ⟨.hbm, 213, rfl⟩
abbrev main_call8_v5 : Ref sig .tc := ⟨.hbm, 214, rfl⟩
abbrev main_call8_v6 : Ref sig .tc := ⟨.hbm, 215, rfl⟩
abbrev main_call8_v7 : Ref sig .tc := ⟨.hbm, 216, rfl⟩
abbrev main_call8_v8 : Ref sig .tc := ⟨.hbm, 217, rfl⟩
abbrev main_call8_v9 : Ref sig .tc := ⟨.hbm, 218, rfl⟩
abbrev main_call8_v10 : Ref sig .tc := ⟨.hbm, 219, rfl⟩
abbrev main_call8_c_3 : Ref sig .tc := ⟨.hbm, 220, rfl⟩
abbrev main_call8_v11 : Ref sig .tc := ⟨.hbm, 221, rfl⟩
abbrev main_call8_v12 : Ref sig .tc := ⟨.hbm, 222, rfl⟩
abbrev main_call8_v13 : Ref sig .tc := ⟨.hbm, 223, rfl⟩
abbrev main_call8_cst : Ref sig .tc := ⟨.hbm, 224, rfl⟩
abbrev main_call8_v14 : Ref sig .tc := ⟨.hbm, 225, rfl⟩
abbrev main_v91 : Ref sig .tc := ⟨.hbm, 226, rfl⟩
abbrev main_cst_14 : Ref sig .tc := ⟨.hbm, 227, rfl⟩
abbrev main_call9_v0 : Ref sig .tc := ⟨.hbm, 228, rfl⟩
abbrev main_call9_v1 : Ref sig .tc := ⟨.hbm, 229, rfl⟩
abbrev main_call9_v2 : Ref sig .tc := ⟨.hbm, 230, rfl⟩
abbrev main_v92 : Ref sig .tc := ⟨.hbm, 231, rfl⟩
abbrev main_cst_15 : Ref sig .tc := ⟨.hbm, 232, rfl⟩
abbrev main_call10_v0 : Ref sig .tc := ⟨.hbm, 233, rfl⟩
abbrev main_call10_v1 : Ref sig .tc := ⟨.hbm, 234, rfl⟩
abbrev main_v93 : Ref sig .tc := ⟨.hbm, 235, rfl⟩
abbrev main_call11_c : Ref sig .tc := ⟨.hbm, 236, rfl⟩
abbrev main_call11_v0 : Ref sig .tc := ⟨.hbm, 237, rfl⟩
abbrev main_call11_v1 : Ref sig .tc := ⟨.hbm, 238, rfl⟩
abbrev main_call11_c_0 : Ref sig .tc := ⟨.hbm, 239, rfl⟩
abbrev main_call11_v2 : Ref sig .tc := ⟨.hbm, 240, rfl⟩
abbrev main_call11_v3 : Ref sig .tc := ⟨.hbm, 241, rfl⟩
abbrev main_call11_v4 : Ref sig .tc := ⟨.hbm, 242, rfl⟩
abbrev main_call11_v5 : Ref sig .tc := ⟨.hbm, 243, rfl⟩
abbrev main_call11_c_1 : Ref sig .tc := ⟨.hbm, 244, rfl⟩
abbrev main_call11_c_2 : Ref sig .tc := ⟨.hbm, 245, rfl⟩
abbrev main_call11_v6 : Ref sig .tc := ⟨.hbm, 246, rfl⟩
abbrev main_call11_v7 : Ref sig .tc := ⟨.hbm, 247, rfl⟩
abbrev main_call11_v8 : Ref sig .tc := ⟨.hbm, 248, rfl⟩
abbrev main_call11_v9 : Ref sig .tc := ⟨.hbm, 249, rfl⟩
abbrev main_call11_v10 : Ref sig .tc := ⟨.hbm, 250, rfl⟩
abbrev main_call11_v11 : Ref sig .tc := ⟨.hbm, 251, rfl⟩
abbrev main_call11_c_3 : Ref sig .tc := ⟨.hbm, 252, rfl⟩
abbrev main_call11_v12 : Ref sig .tc := ⟨.hbm, 253, rfl⟩
abbrev main_call11_v13 : Ref sig .tc := ⟨.hbm, 254, rfl⟩
abbrev main_call11_c_4 : Ref sig .tc := ⟨.hbm, 255, rfl⟩
abbrev main_call11_v14 : Ref sig .tc := ⟨.hbm, 256, rfl⟩
abbrev main_v94 : Ref sig .tc := ⟨.hbm, 257, rfl⟩
abbrev main_c_16 : Ref sig .tc := ⟨.hbm, 258, rfl⟩
abbrev main_call12_v0 : Ref sig .tc := ⟨.hbm, 259, rfl⟩
abbrev main_call12_v1 : Ref sig .tc := ⟨.hbm, 260, rfl⟩
abbrev main_v95 : Ref sig .tc := ⟨.hbm, 261, rfl⟩

abbrev nD : Nat := 1
abbrev τ : Topo := Topo.v7x

variable {F : FTy → Type} [FloatOps F]

abbrev main_while0_count : Scf.Loop 32 := ⟨0#32, 1000#32, 1#32⟩
-- ==== Proof.RefFrame.lean ====
/-
  The reference program's run, read as contents: which buffers the stretches before the loop, the loop and the stretches
  after it write, and so that the arguments (and whatever was computed before the loop) come through unchanged; with it
  the frame of the reference, whose signature declares no semaphore.
-/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo
open Idealize.SL.Sem Cert.ReferenceIdeal.Gen Cert.ReferenceIdeal.Value

variable {F : FTy → Type} [FloatOps F]

/-- The buffers the stretch `hostOps0_10` writes, in order. -/
abbrev hostOps0_10_W : List (Ref sig .tc) := [main_v85, main_cst_10]
theorem hostOps0_10_writes : (hostOps0_10 : List (HloOp τ sig (Elt F))).Forall fun op => op.writes ⊆ (hostOps0_10_W.map (Proc.devRef (τ := τ) .tc)).toFinset :=
  forall_writes_sub_of_map rfl

/-- The buffers the stretch `hostOps0_11` writes, in order. -/
abbrev hostOps0_11_W : List (Ref sig .tc) := [main_call7_v0, main_call7_v1, main_v86]
theorem hostOps0_11_writes : (hostOps0_11 : List (HloOp τ sig (Elt F))).Forall fun op => op.writes ⊆ (hostOps0_11_W.map (Proc.devRef (τ := τ) .tc)).toFinset :=
  forall_writes_sub_of_map rfl

/-- The buffers the stretch `hostOps0_12` writes, in order. -/
abbrev hostOps0_12_W : List (Ref sig .tc) := [main_values_11, main_indices_12, main_cst_13, main_v87, main_v88, main_v89, main_v90]
theorem hostOps0_12_writes : (hostOps0_12 : List (HloOp τ sig (Elt F))).Forall fun op => op.writes ⊆ (hostOps0_12_W.map (Proc.devRef (τ := τ) .tc)).toFinset :=
  forall_writes_sub_of_map rfl

/-- The buffers the stretch `hostOps0_13` writes, in order. -/
abbrev hostOps0_13_W : List (Ref sig .tc) := [main_call8_c, main_call8_v0, main_call8_v1, main_call8_c_0, main_call8_v2, main_call8_v3, main_call8_v4, main_call8_c_1, main_call8_c_2, main_call8_v5, main_call8_v6, main_call8_v7, main_call8_v8, main_call8_v9, main_call8_v10, main_call8_c_3, main_call8_v11, main_call8_v12, main_call8_v13, main_call8_cst, main_call8_v14, main_v91]
theorem hostOps0_13_writes : (hostOps0_13 : List (HloOp τ sig (Elt F))).Forall fun op => op.writes ⊆ (hostOps0_13_W.map (Proc.devRef (τ := τ) .tc)).toFinset :=
  forall_writes_sub_of_map rfl

/-- The buffers the stretch `hostOps0_14` writes, in order. -/
abbrev hostOps0_14_W : List (Ref sig .tc) := [main_cst_14]
theorem hostOps0_14_writes : (hostOps0_14 : List (HloOp τ sig (Elt F))).Forall fun op => op.writes ⊆ (hostOps0_14_W.map (Proc.devRef (τ := τ) .tc)).toFinset :=
  forall_writes_sub_of_map rfl

/-- The buffers the stretch `hostOps0_15` writes, in order. -/
abbrev hostOps0_15_W : List (Ref sig .tc) := [main_call9_v0, main_call9_v1, main_call9_v2, main_v92]
theorem hostOps0_15_writes : (hostOps0_15 : List (HloOp τ sig (Elt F))).Forall fun op => op.writes ⊆ (hostOps0_15_W.map (Proc.devRef (τ := τ) .tc)).toFinset :=
  forall_writes_sub_of_map rfl

/-- The buffers the stretch `hostOps0_16` writes, in order. -/
abbrev hostOps0_16_W : List (Ref sig .tc) := [main_cst_15]
theorem hostOps0_16_writes : (hostOps0_16 : List (HloOp τ sig (Elt F))).Forall fun op => op.writes ⊆ (hostOps0_16_W.map (Proc.devRef (τ := τ) .tc)).toFinset :=
  forall_writes_sub_of_map rfl

/-- The buffers the stretch `hostOps0_17` writes, in order. -/
abbrev hostOps0_17_W : List (Ref sig .tc) := [main_call10_v0, main_call10_v1, main_v93]
theorem hostOps0_17_writes : (hostOps0_17 : List (HloOp τ sig (Elt F))).Forall fun op => op.writes ⊆ (hostOps0_17_W.map (Proc.devRef (τ := τ) .tc)).toFinset :=
  forall_writes_sub_of_map rfl

/-- The buffers the stretch `hostOps0_18` writes, in order. -/
abbrev hostOps0_18_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v94]
theorem hostOps0_18_writes : (hostOps0_18 : List (HloOp τ sig (Elt F))).Forall fun op => op.writes ⊆ (hostOps0_18_W.map (Proc.devRef (τ := τ) .tc)).toFinset :=
  forall_writes_sub_of_map rfl

/-- The buffers the stretch `hostOps0_19` writes, in order. -/
abbrev hostOps0_19_W : List (Ref sig .tc) := [main_c_16]
theorem hostOps0_19_writes : (hostOps0_19 : List (HloOp τ sig (Elt F))).Forall fun op => op.writes ⊆ (hostOps0_19_W.map (Proc.devRef (τ := τ) .tc)).toFinset :=
  forall_writes_sub_of_map rfl

/-- The buffers the stretch `hostOps0_20` writes, in order. -/
abbrev hostOps0_20_W : List (Ref sig .tc) := [main_call12_v0, main_call12_v1, main_v95]
theorem hostOps0_20_writes : (hostOps0_20 : List (HloOp τ sig (Elt F))).Forall fun op => op.writes ⊆ (hostOps0_20_W.map (Proc.devRef (τ := τ) .tc)).toFinset :=
  forall_writes_sub_of_map rfl

/-- The stretches before the loop leave a buffer they do not write. -/
theorem pre_keep (V : Valuation τ sig (Elt F)) {r : Ref sig .tc}
    (hr : r ∉ hostOps0_W ++ hostOps0_1_W ++ hostOps0_2_W ++ hostOps0_3_W ++ hostOps0_4_W ++ hostOps0_5_W ++ hostOps0_6_W ++ hostOps0_7_W ++ hostOps0_8_W ++ hostOps0_9_W) :
    afterL preI V (Proc.devRef .tc r) = V (Proc.devRef .tc r) := by
  simp only [List.mem_append, not_or] at hr
  obtain ⟨⟨⟨⟨⟨⟨⟨⟨⟨h0, h1⟩, h2⟩, h3⟩, h4⟩, h5⟩, h6⟩, h7⟩, h8⟩, h9⟩ := hr
  simp only [preI, afterL_cons, afterL_nil]
  rw [after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- One trip of the loop leaves a buffer it does not write. -/
theorem body_keep (V : Valuation τ sig (Elt F)) {r : Ref sig .tc}
    (hr : r ∉ while0Ops0_W ++ while0Ops0_1_W ++ while0Ops0_2_W ++ while0Ops0_3_W ++ while0Ops0_4_W) :
    afterL bodyI V (Proc.devRef .tc r) = V (Proc.devRef .tc r) := by
  simp only [List.mem_append, not_or] at hr
  obtain ⟨⟨⟨⟨h0, h1⟩, h2⟩, h3⟩, h4⟩ := hr
  simp only [bodyI, afterL_cons, afterL_nil]
  rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]

/-- The stretches after the loop leave a buffer they do not write. -/
theorem post_keep (V : Valuation τ sig (Elt F)) {r : Ref sig .tc}
    (hr : r ∉ hostOps0_10_W ++ hostOps0_11_W ++ hostOps0_12_W ++ hostOps0_13_W ++ hostOps0_14_W ++ hostOps0_15_W ++ hostOps0_16_W ++ hostOps0_17_W ++ hostOps0_18_W ++ hostOps0_19_W ++ hostOps0_20_W) :
    afterL postI V (Proc.devRef .tc r) = V (Proc.devRef .tc r) := by
  simp only [List.mem_append, not_or] at hr
  obtain ⟨⟨⟨⟨⟨⟨⟨⟨⟨⟨h0, h1⟩, h2⟩, h3⟩, h4⟩, h5⟩, h6⟩, h7⟩, h8⟩, h9⟩, h10⟩ := hr
  simp only [postI, afterL_cons, afterL_nil]
  rw [after_of_writes_sub hostOps0_20 _ hostOps0_20_writes h10, after_of_writes_sub hostOps0_19 _ hostOps0_19_writes h9, after_of_writes_sub hostOps0_18 _ hostOps0_18_writes h8, after_of_writes_sub hostOps0_17 _ hostOps0_17_writes h7, after_of_writes_sub hostOps0_16 _ hostOps0_16_writes h6, after_of_writes_sub hostOps0_15 _ hostOps0_15_writes h5, after_of_writes_sub hostOps0_14 _ hostOps0_14_writes h4, after_of_writes_sub hostOps0_13 _ hostOps0_13_writes h3, after_of_writes_sub hostOps0_12 _ hostOps0_12_writes h2, after_of_writes_sub hostOps0_11 _ hostOps0_11_writes h1, after_of_writes_sub hostOps0_10 _ hostOps0_10_writes h0]

variable (m : (ℓ : Loc nD τ sig) → Buf (Elt F) ℓ) (ρ : Dev nD → PrngReg)

/-- The loop leaves a buffer that neither its condition nor its body writes, whatever the number of trips. -/
theorem loop_keep (c : Dev nD) {r : Ref sig .tc} (hc : r ∉ condOps_W)
    (hb : r ∉ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    rw [show atK m (k + 1) c = afterL bodyI (after condOps (atK m k c)) from rfl, body_keep _ hb,
      after_of_writes_sub condOps _ condOps_writes hc, loop_keep c hc hb k]

/-- An argument ends at what it held at the launch. -/
theorem final_arg (c : Dev nD) {r : Ref sig .tc} (hr : r ∈ [main_arg0, main_arg1, main_arg2]) :
    finalContents condOps preI bodyI postI 1000 m c (Proc.devRef .tc r) = m ((c.tc : Thread nD τ).loc r) := by
  have h : ∀ r ∈ [main_arg0, main_arg1, main_arg2],
      (r ∉ hostOps0_10_W ++ hostOps0_11_W ++ hostOps0_12_W ++ hostOps0_13_W ++ hostOps0_14_W ++ hostOps0_15_W ++ hostOps0_16_W
        ++ hostOps0_17_W ++ hostOps0_18_W ++ hostOps0_19_W ++ hostOps0_20_W)
      ∧ (r ∉ hostOps0_W ++ hostOps0_1_W ++ hostOps0_2_W ++ hostOps0_3_W ++ hostOps0_4_W ++ hostOps0_5_W ++ hostOps0_6_W
        ++ hostOps0_7_W ++ hostOps0_8_W ++ hostOps0_9_W)
      ∧ (r ∉ while0Ops0_W ++ while0Ops0_1_W ++ while0Ops0_2_W ++ while0Ops0_3_W ++ while0Ops0_4_W)
      ∧ r ∉ condOps_W := by decide +kernel
  obtain ⟨h1, h2, h3, h4⟩ := h r hr
  unfold finalContents
  rw [post_keep _ h1, after_of_writes_sub condOps _ condOps_writes h4]
  exact (loop_keep m c h4 h3 1000).trans (pre_keep _ h2)

/-- The frame of the reference: its arguments end unchanged and, no semaphore being declared, every counter reads zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h c main_arg0 rfl).trans (final_arg m c (by decide)), (h c main_arg1 rfl).trans (final_arg m c (by decide)),
        (h c main_arg2 rfl).trans (final_arg m c (by decide))⟩, sem_eq_zero_of_no_sems rfl r.2⟩) (run_fold m ρ)

end Cert.ReferenceIdeal.Hand

end
-- ==== Proof.KBlock.lean ====
module

public import proofs.«01_k».proof.Proof.Gen.KernelIdeal.Frame
public import Idealize.ShloMosaic.Lib.Pipeline.Value
public import Idealize.ShloMosaic.Lib.WordArith
public import Idealize.ShloMosaic.Lib.ValueIdx
public import Idealize.ShloMosaic.Lib.Pointwise

@[expose] public section

set_option maxRecDepth 16384

noncomputable section

namespace Cert.KernelIdeal.Hand
open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F]

/-- Row `k` of an overlap table of 1024 rows, as the loop loads it. -/
def rowOf (M : FVec F S1024x8x128 .f32) (k : Fin 1024) : Vec F S1x8x128 .f32 := fun j => M (ix3 k ((j 1).cast rfl) ((j 2).cast rfl))

/-- The overlap table the kernel writes to its scratch memory, of its two input blocks. -/
def iouTab (x0 : Vec F S1x1024x8 .f32) (x1 : Vec F S1x8x1024 .f32) : FVec F S1024x8x128 .f32 :=
  k0_pay27 (k0_pay2 x0) (k0_pay3 x1) (k0_pay13 x0) (k0_pay14 x0) (k0_pay15 x0) (k0_pay16 x0) (k0_pay17 x0) (k0_pay18 x1) (k0_pay19 x1)
    (k0_pay25 x1) (k0_pay26 x1)

/-- The keep mask before trip `n` of the greedy loop over the overlap table `M`. -/
def keepAt (M : FVec F S1024x8x128 .f32) : ℕ → FVec F S8x128 .f32
  | 0 => k0_pay29
  | n + 1 => if h : n < 1024 then k0_pay30 (⟨n, h⟩ : Fin k0_t1_loop.trips) (keepAt M n) (rowOf M ⟨n, h⟩) else keepAt M n

variable (c : Dev nD) (i : grid0.Coords) (arg1 : Memref sig .tc .vmem S1x1024x8 .f32) (harg1 : arg1.IsWhole) (arg2 : Memref sig .tc .vmem S1x8x1024 .f32) (harg2 : arg2.IsWhole) (arg3 : Memref sig .tc .vmem S1x384x8 .f32) (harg3 : arg3.IsWhole)
  (v1 : FVec F S1024x8 .f32) (v3 : FVec F S8x1024 .f32) (v97 M : FVec F S1024x8x128 .f32)

/-- What the scratch memory holds during the loop. -/
abbrev scr (M : FVec F S1024x8x128 .f32) : BufTy.Contents (Elt F) (scM0_0).view.ty :=
  (View.whole cc0_scratch0).writes (Elt F) (View.whole cc0_scratch0).junk
    [⟨Rect.unit ![0, 0, 0] ![1024, 8, 128] inb_S1024x8x128_S1024x8x128_0_0_0, k0_pay28 M⟩]

theorem trip_eq (k : Fin k0_t1_loop.trips) (acc : FVec F S8x128 .f32) :
    tripR_k0_t1 Variants.none c none i arg1 harg1 arg2 harg2 arg3 harg3 scM0_0 (Memref.isWhole_whole _) v1 v3 v97 (scr M) k acc
    = k0_pay30 k acc (rowOf M k) := by
  have hk : k.val < 1024 := Nat.lt_of_lt_of_le k.isLt k0_t1_abs.2.1
  unfold tripR_k0_t1 trip_k0_t1
  dsimp only
  sl_unfold_words
  congr 1
  rw [View.readAt_writes_junk_eq_canon]
  funext j
  have h0 : (fun _ => 0 : Fin 3 → ℕ) = ![0, 0, 0] := by funext a; fin_cases a <;> rfl
  have e := View.canon_unit_zero (Val := Elt F) (S := S1024x8x128) (e := .f32) h0.symm inb_S1024x8x128_S1024x8x128_0_0_0 (k0_pay28 M)
  refine (congrFun e _).trans ?_
  unfold k0_pay28 rowOf
  dsimp only
  rw [shapeCast_self]
  congr 1
  funext a
  apply Fin.ext
  have hi := (by simp only [Scf.iv]; simp; omega : (Scf.iv 0#32 1#32 k.val).toNat = k.val)
  have hj : (j 0).val < 1 := (j 0).isLt
  fin_cases a
  · show BitVec.toNat (Scf.iv 0#32 1#32 ↑k) + 1 * (j 0).val = k.val
    omega
  · show 0 + 1 * (j 1).val = (j 1).val
    omega
  · show 0 + 1 * (j 2).val = (j 2).val
    omega

theorem st_eq (n : ℕ) (hn : n ≤ 1024) :
    st_k0_t1 Variants.none c none i arg1 harg1 arg2 harg2 arg3 harg3 scM0_0 (Memref.isWhole_whole _) v1 v3 v97 (scr M) k0_pay29 n = keepAt M n := by
  induction n with
  | zero => rfl
  | succ n ih =>
    have h := st_k0_t1_succ Variants.none c none i arg1 harg1 arg2 harg2 arg3 harg3 scM0_0 (Memref.isWhole_whole _) v1 v3 v97 (scr M) k0_pay29 (⟨n, hn⟩ : Fin k0_t1_loop.trips)
    rw [trip_eq, ih (by omega)] at h
    rw [keepAt, dif_pos (by omega)]
    exact h

theorem outsAt0_eq (m : (ℓ : Loc nD τ sig) → Buf (Elt F) ℓ) (c : Dev nD) (t : Fin cfg0.N) :
    outsAt0 m c t = k0_pay1 (k0_pay31 (k0_pay2 (iblk m c 0 t)) (k0_pay3 (iblk m c 1 t)) (keepAt (iouTab (iblk m c 0 t) (iblk m c 1 t)) 1024))
      (iota Kind.tc S384x8 32 [1] iota_S384x8_d1_w32) k0_pay32 := by
  unfold outsAt0 out0_A_2
  rw [View.read_writes_eq_canon _ _ _ (cover0_A_2 c _ _ _ _ _ _ _ _ _ _ _)]
  unfold kernelRun0_A
  dsimp only
  sl_unfold_words
  have h0 : (fun _ => 0 : Fin 3 → ℕ) = ![0, 0, 0] := by funext a; fin_cases a <;> rfl
  simp only [View.readAt_eq_ld, (hs0_0 t).read_unread, (hs0_1 t).read_unread]
  have e0 := View.ld_unit_zero (Val := Elt F) (S := S1x1024x8) (e := .f32) h0.symm inb_S1x1024x8_S1x1024x8_0_0_0 (iblk m c 0 t)
  have e1 := View.ld_unit_zero (Val := Elt F) (S := S1x8x1024) (e := .f32) h0.symm inb_S1x8x1024_S1x8x1024_0_0_0 (iblk m c 1 t)
  rw [e0, e1]
  have e := fun w => View.canon_unit_zero (Val := Elt F) (S := S1x384x8) (e := .f32) h0.symm inb_S1x384x8_S1x384x8_0_0_0 w
  refine (e _).trans ?_
  congr 2
  exact st_eq c _ _ _ _ _ _ _ _ _ _ _ 1024 le_rfl

end Cert.KernelIdeal.Hand

end
-- ==== Proof.RefValue.lean ====
/-
  The reference's stretches of host operations as values: what each stretch leaves in the buffers read later, as a
  function of the buffers it reads. The selected scores, the gathered boxes and labels, the table of overlaps and the
  last selection each get a name here, for the index-level reading in the modules above.
-/
module

public import proofs.«01_k».proof.Proof.RefFrame

@[expose] public section

set_option maxRecDepth 16384

noncomputable section

namespace Cert.ReferenceIdeal.Hand

open Idealize.ShloMosaic Idealize.ShloMosaic.TcCoe Idealize.ShloMosaic.StableHlo
open Idealize.SL.Sem Cert.ReferenceIdeal Cert.ReferenceIdeal.Gen Cert.ReferenceIdeal.Value

variable {F : FTy → Type} [FloatOps F]

/-- Scores at or below the threshold are put out of play. -/
def scoresOf (s : FVec F S16x100000 .f32) : FVec F S16x100000 .f32 :=
  select (cmpf .ogt s (broadcastInDim S16x100000 ![] bcast_S_S16x100000 (constant S_ .f32 0x3D4CCCCD#32 : FVec F S_ .f32))) s
    (broadcastInDim S16x100000 ![] bcast_S_S16x100000 (constant S_ .f32 0xCE6E6B28#32 : FVec F S_ .f32))

/-- The thousand largest scores of each image, largest first. -/
def valsOf (s : FVec F S16x100000 .f32) : FVec F S16x1000 .f32 :=
  (Host.topK S16x1000 1 (FloatOps.cmpfTotal .gt) (scoresOf s) sliceFits_S16x100000_S16x1000).1

/-- Where they stand. -/
def idxOf (s : FVec F S16x100000 .f32) : IVec S16x1000 32 :=
  (Host.topK S16x1000 1 (FloatOps.cmpfTotal .gt) (scoresOf s) sliceFits_S16x100000_S16x1000).2

/-- The boxes of the selected scores. The places come as a column. -/
def takeBoxesCol (x : FVec F S16x100000x5 .f32) (i3 : IVec S16x1000x1 32) : FVec F S16x1000x5 .f32 :=
  let j := select (cmpi .slt i3 (broadcastInDim S16x1000x1 ![] bcast_S_S16x1000x1 (constantI S_ 32 0#32)))
    (addi i3 (broadcastInDim S16x1000x1 ![] bcast_S_S16x1000x1 (constantI S_ 32 100000#32))) i3
  select (broadcastInDim S16x1000x5 ![0, 1] bcast_S16x1000_S16x1000x5_0_1
      (Host.reduce IntOp.andi
        (andi (cmpi .sge j (broadcastInDim S16x1000x1 ![] bcast_S_S16x1000x1 (constantI S_ 32 0#32)))
          (cmpi .sle j (broadcastInDim S16x1000x1 ![0, 1, 2] bcast_S1x1x1_S16x1000x1_0_1_2
            (broadcastInDim S1x1x1 ![2] bcast_S1_S1x1x1_2 (constantI S1 32 99999#32)))))
        (constantI S_ 1 1#1) reducesTo_S16x1000x1_S16x1000_d2 h_S_))
    (Host.gather gather_S16x100000x5_S16x1000x1_S16x1000x5_2_1_0_0_1_2_115 x j)
    (broadcastInDim S16x1000x5 ![] bcast_S_S16x1000x5 (constant S_ .f32 0x7FC00000#32 : FVec F S_ .f32))

/-- The boxes of the selected scores. -/
def takeBoxes (x : FVec F S16x100000x5 .f32) (i : IVec S16x1000 32) : FVec F S16x1000x5 .f32 :=
  takeBoxesCol x (broadcastInDim S16x1000x1 ![0, 1] bcast_S16x1000_S16x1000x1_0_1 i)

/-- The labels of the selected scores. -/
def takeLabels (x : IVec S16x100000 32) (i : IVec S16x1000 32) : IVec S16x1000 32 :=
  let j := shapeCast S16x1000x1 (select (cmpi .slt i (broadcastInDim S16x1000 ![] bcast_S_S16x1000 (constantI S_ 32 0#32)))
    (addi i (broadcastInDim S16x1000 ![] bcast_S_S16x1000 (constantI S_ 32 100000#32))) i) shapeCasts_S16x1000_S16x1000x1
  select (Host.reduce IntOp.andi
        (andi (cmpi .sge j (broadcastInDim S16x1000x1 ![] bcast_S_S16x1000x1 (constantI S_ 32 0#32)))
          (cmpi .sle j (broadcastInDim S16x1000x1 ![0, 1, 2] bcast_S1x1x1_S16x1000x1_0_1_2
            (broadcastInDim S1x1x1 ![2] bcast_S1_S1x1x1_2 (constantI S1 32 99999#32)))))
        (constantI S_ 1 1#1) reducesTo_S16x1000x1_S16x1000_d2 h_S_)
    (Host.gather gather_S16x100000_S16x1000x1_S16x1000_n_1_0_0_1_2_11 x j)
    (broadcastInDim S16x1000 ![] bcast_S_S16x1000 (constantI S_ 32 2147483648#32))

/-- The selected boxes taken again by the last selection. The places come as a column. -/
def takeBoxes2Col (x : FVec F S16x1000x5 .f32) (i3 : IVec S16x300x1 32) : FVec F S16x300x5 .f32 :=
  let j := select (cmpi .slt i3 (broadcastInDim S16x300x1 ![] bcast_S_S16x300x1 (constantI S_ 32 0#32)))
    (addi i3 (broadcastInDim S16x300x1 ![] bcast_S_S16x300x1 (constantI S_ 32 1000#32))) i3
  select (broadcastInDim S16x300x5 ![0, 1] bcast_S16x300_S16x300x5_0_1
      (Host.reduce IntOp.andi
        (andi (cmpi .sge j (broadcastInDim S16x300x1 ![] bcast_S_S16x300x1 (constantI S_ 32 0#32)))
          (cmpi .sle j (broadcastInDim S16x300x1 ![0, 1, 2] bcast_S1x1x1_S16x300x1_0_1_2
            (broadcastInDim S1x1x1 ![2] bcast_S1_S1x1x1_2 (constantI S1 32 999#32)))))
        (constantI S_ 1 1#1) reducesTo_S16x300x1_S16x300_d2 h_S_))
    (Host.gather gather_S16x1000x5_S16x300x1_S16x300x5_2_1_0_0_1_2_115 x j)
    (broadcastInDim S16x300x5 ![] bcast_S_S16x300x5 (constant S_ .f32 0x7FC00000#32 : FVec F S_ .f32))

/-- The selected boxes taken again by the last selection. -/
def takeBoxes2 (x : FVec F S16x1000x5 .f32) (i : IVec S16x300 32) : FVec F S16x300x5 .f32 :=
  takeBoxes2Col x (broadcastInDim S16x300x1 ![0, 1] bcast_S16x300_S16x300x1_0_1 i)

/-- The selected labels taken again by the last selection. -/
def takeLabels2 (x : IVec S16x1000 32) (i : IVec S16x300 32) : IVec S16x300 32 :=
  let j := shapeCast S16x300x1 (select (cmpi .slt i (broadcastInDim S16x300 ![] bcast_S_S16x300 (constantI S_ 32 0#32)))
    (addi i (broadcastInDim S16x300 ![] bcast_S_S16x300 (constantI S_ 32 1000#32))) i) shapeCasts_S16x300_S16x300x1
  select (Host.reduce IntOp.andi
        (andi (cmpi .sge j (broadcastInDim S16x300x1 ![] bcast_S_S16x300x1 (constantI S_ 32 0#32)))
          (cmpi .sle j (broadcastInDim S16x300x1 ![0, 1, 2] bcast_S1x1x1_S16x300x1_0_1_2
            (broadcastInDim S1x1x1 ![2] bcast_S1_S1x1x1_2 (constantI S1 32 999#32)))))
        (constantI S_ 1 1#1) reducesTo_S16x300x1_S16x300_d2 h_S_)
    (Host.gather gather_S16x1000_S16x300x1_S16x300_n_1_0_0_1_2_11 x j)
    (broadcastInDim S16x300 ![] bcast_S_S16x300 (constantI S_ 32 2147483648#32))

/-- Which of the selected scores are in play. -/
def validOf (v : FVec F S16x1000 .f32) : IVec S16x1000 1 :=
  cmpf .ogt v (broadcastInDim S16x1000 ![] bcast_S_S16x1000 (constant S_ .f32 0xCDEE6B28#32 : FVec F S_ .f32))

/-- The boxes' centre x. -/
def colX (b : FVec F S16x1000x5 .f32) : FVec F S16x1000 .f32 := shapeCast S16x1000 (extractStridedSlice S16x1000x1 ![0, 0, 0] b slices_S16x1000x5_S16x1000x1_0_0_0) shapeCasts_S16x1000x1_S16x1000

/-- The boxes' centre y. -/
def colY (b : FVec F S16x1000x5 .f32) : FVec F S16x1000 .f32 := shapeCast S16x1000 (extractStridedSlice S16x1000x1 ![0, 0, 1] b slices_S16x1000x5_S16x1000x1_0_0_1) shapeCasts_S16x1000x1_S16x1000

/-- The boxes' width. -/
def colW (b : FVec F S16x1000x5 .f32) : FVec F S16x1000 .f32 := shapeCast S16x1000 (extractStridedSlice S16x1000x1 ![0, 0, 2] b slices_S16x1000x5_S16x1000x1_0_0_2) shapeCasts_S16x1000x1_S16x1000

/-- The boxes' height. -/
def colH (b : FVec F S16x1000x5 .f32) : FVec F S16x1000 .f32 := shapeCast S16x1000 (extractStridedSlice S16x1000x1 ![0, 0, 3] b slices_S16x1000x5_S16x1000x1_0_0_3) shapeCasts_S16x1000x1_S16x1000

/-- The boxes' angle. -/
def colA (b : FVec F S16x1000x5 .f32) : FVec F S16x1000 .f32 := shapeCast S16x1000 (extractStridedSlice S16x1000x1 ![0, 0, 4] b slices_S16x1000x5_S16x1000x1_0_0_4) shapeCasts_S16x1000x1_S16x1000

/-- Half the width of a box's axis-aligned hull. -/
def hullW (b : FVec F S16x1000x5 .f32) : FVec F S16x1000 .f32 :=
  mulf (broadcastInDim S16x1000 ![] bcast_S_S16x1000 (constant S_ .f32 0x3F000000#32 : FVec F S_ .f32)) (addf (Host.absf (mulf (colW b) (Host.cos (colA b)))) (Host.absf (mulf (colH b) (Host.sin (colA b)))))

/-- Half its height. -/
def hullH (b : FVec F S16x1000x5 .f32) : FVec F S16x1000 .f32 :=
  mulf (broadcastInDim S16x1000 ![] bcast_S_S16x1000 (constant S_ .f32 0x3F000000#32 : FVec F S_ .f32)) (addf (Host.absf (mulf (colW b) (Host.sin (colA b)))) (Host.absf (mulf (colH b) (Host.cos (colA b)))))

/-- The centre x moved by the label's offset. -/
def offX (b : FVec F S16x1000x5 .f32) (l : IVec S16x1000 32) : FVec F S16x1000 .f32 :=
  addf (colX b) (mulf (sitofp .f32 l) (broadcastInDim S16x1000 ![] bcast_S_S16x1000 (constant S_ .f32 0x47C35000#32 : FVec F S_ .f32)))

/-- A vector of each image down the rows of a square. -/
def downRows {α : Type} (x : S16x1000.Idx → α) : S16x1000x1000.Idx → α :=
  broadcastInDim S16x1000x1000 ![0, 1, 2] bcast_S16x1000x1_S16x1000x1000_0_1_2 (broadcastInDim S16x1000x1 ![0, 1] bcast_S16x1000_S16x1000x1_0_1 x)

/-- And along its columns. -/
def alongCols {α : Type} (x : S16x1000.Idx → α) : S16x1000x1000.Idx → α :=
  broadcastInDim S16x1000x1000 ![0, 1, 2] bcast_S16x1x1000_S16x1000x1000_0_1_2 (broadcastInDim S16x1x1000 ![0, 2] bcast_S16x1000_S16x1x1000_0_2 x)

/-- The table of overlaps of axis-aligned rectangles given by their sides. -/
def iouOf (x1 y1 x2 y2 : FVec F S16x1000 .f32) : FVec F S16x1000x1000 .f32 :=
  let z := broadcastInDim S16x1000x1000 ![] bcast_S_S16x1000x1000 (constant S_ .f32 0x00000000#32 : FVec F S_ .f32)
  let inter := mulf (maximumf z (subf (minimumf (downRows x2) (alongCols x2)) (maximumf (downRows x1) (alongCols x1))))
    (maximumf z (subf (minimumf (downRows y2) (alongCols y2)) (maximumf (downRows y1) (alongCols y1))))
  let area := mulf (subf x2 x1) (subf y2 y1)
  Host.divf inter (addf (subf (addf (downRows area) (alongCols area)) inter)
    (broadcastInDim S16x1000x1000 ![] bcast_S_S16x1000x1000 (constant S_ .f32 0x33D6BF95#32 : FVec F S_ .f32)))

/-- The overlaps of the selected boxes, labels apart. -/
def iouR (b : FVec F S16x1000x5 .f32) (l : IVec S16x1000 32) : FVec F S16x1000x1000 .f32 :=
  iouOf (subf (offX b l) (hullW b)) (subf (colY b) (hullH b)) (addf (offX b l) (hullW b)) (addf (colY b) (hullH b))

/-- The kept scores, everything else out of play. -/
def keptScores (keep valid : IVec S16x1000 1) (v : FVec F S16x1000 .f32) : FVec F S16x1000 .f32 :=
  select (andi keep valid) v (broadcastInDim S16x1000 ![] bcast_S_S16x1000 (constant S_ .f32 0xCE6E6B28#32 : FVec F S_ .f32))

/-- The three hundred largest of them. -/
def outVals (fs : FVec F S16x1000 .f32) : FVec F S16x300 .f32 := (Host.topK S16x300 1 (FloatOps.cmpfTotal .gt) fs sliceFits_S16x1000_S16x300).1

/-- Where they stand. -/
def outIdx (fs : FVec F S16x1000 .f32) : IVec S16x300 32 := (Host.topK S16x300 1 (FloatOps.cmpfTotal .gt) fs sliceFits_S16x1000_S16x300).2

/-- Which of them are in play. -/
def outOk (fs : FVec F S16x1000 .f32) : IVec S16x300 1 :=
  cmpf .ogt (outVals fs) (broadcastInDim S16x300 ![] bcast_S_S16x300 (constant S_ .f32 0xCDEE6B28#32 : FVec F S_ .f32))

/-- The first result. -/
def res0 (fs : FVec F S16x1000 .f32) (b : FVec F S16x1000x5 .f32) : FVec F S16x300x5 .f32 :=
  select (broadcastInDim S16x300x5 ![0, 1, 2] bcast_S16x300x1_S16x300x5_0_1_2 (broadcastInDim S16x300x1 ![0, 1] bcast_S16x300_S16x300x1_0_1 (outOk fs)))
    (takeBoxes2 b (outIdx fs)) (broadcastInDim S16x300x5 ![] bcast_S_S16x300x5 (constant S_ .f32 0x00000000#32 : FVec F S_ .f32))

/-- The second result. -/
def res1 (fs : FVec F S16x1000 .f32) : FVec F S16x300 .f32 :=
  select (outOk fs) (outVals fs) (broadcastInDim S16x300 ![] bcast_S_S16x300 (constant S_ .f32 0x00000000#32 : FVec F S_ .f32))

/-- The third result. -/
def res2 (fs : FVec F S16x1000 .f32) (l : IVec S16x1000 32) : IVec S16x300 32 :=
  select (outOk fs) (takeLabels2 l (outIdx fs)) (broadcastInDim S16x300 ![] bcast_S_S16x300 (constantI S_ 32 4294967295#32))

variable (V : Valuation τ sig (Elt F))

/-- A buffer none of the operations of a list writes, through the list. -/
theorem keep_one {ops : List (HloOp τ sig (Elt F))} {W : List (Ref sig .tc)}
    (hW : ops.Forall fun op => op.writes ⊆ (W.map (Proc.devRef (τ := τ) .tc)).toFinset) {r : Ref sig .tc} (hr : r ∉ W) :
    after ops V (Proc.devRef .tc r) = V (Proc.devRef .tc r) := after_of_writes_sub ops V hW hr

theorem read_v4 : after hostOps0_3 V (Proc.devRef .tc main_v4) = takeBoxesCol (V (Proc.devRef .tc main_arg0)) (V (Proc.devRef .tc main_v3)) := by
  after_results <;> rfl

theorem read_v5 : after hostOps0_4 V (Proc.devRef .tc main_v5) = takeLabels (V (Proc.devRef .tc main_arg2)) (V (Proc.devRef .tc main_indices)) := by
  after_results <;> rfl

theorem read_v3 : after hostOps0_2 (after hostOps0_1 (after hostOps0 V)) (Proc.devRef .tc main_v3)
    = broadcastInDim S16x1000x1 ![0, 1] bcast_S16x1000_S16x1000x1_0_1 (idxOf (V (Proc.devRef .tc main_arg1))) := by
  after_results <;> rfl

theorem read_idx : after hostOps0_2 (after hostOps0_1 (after hostOps0 V)) (Proc.devRef .tc main_indices) = idxOf (V (Proc.devRef .tc main_arg1)) := by
  after_results <;> rfl

theorem read_vals : after hostOps0_2 (after hostOps0_1 (after hostOps0 V)) (Proc.devRef .tc main_values) = valsOf (V (Proc.devRef .tc main_arg1)) := by
  after_results <;> rfl

theorem read_v7 : after hostOps0_5 V (Proc.devRef .tc main_v7) = validOf (V (Proc.devRef .tc main_values)) := by
  after_results <;> rfl

theorem read_x1 : after hostOps0_5 V (Proc.devRef .tc main_v40) = subf (offX (V (Proc.devRef .tc main_v4)) (V (Proc.devRef .tc main_v5))) (hullW (V (Proc.devRef .tc main_v4))) := by
  after_results <;> rfl

theorem read_y1 : after hostOps0_5 V (Proc.devRef .tc main_v41) = subf (colY (V (Proc.devRef .tc main_v4))) (hullH (V (Proc.devRef .tc main_v4))) := by
  after_results <;> rfl

theorem read_x2 : after hostOps0_5 V (Proc.devRef .tc main_v43) = addf (offX (V (Proc.devRef .tc main_v4)) (V (Proc.devRef .tc main_v5))) (hullW (V (Proc.devRef .tc main_v4))) := by
  after_results <;> rfl

theorem read_y2 : after hostOps0_5 V (Proc.devRef .tc main_v44) = addf (colY (V (Proc.devRef .tc main_v4))) (hullH (V (Proc.devRef .tc main_v4))) := by
  after_results <;> rfl

theorem read_c5 : after hostOps0_5 V (Proc.devRef .tc main_cst_5) = constant S_ .f32 0x00000000#32 := by
  after_results <;> rfl

theorem read_y2s : after hostOps0_5 V (Proc.devRef .tc main_v64) = minimumf (downRows (addf (colY (V (Proc.devRef .tc main_v4))) (hullH (V (Proc.devRef .tc main_v4))))) (alongCols (addf (colY (V (Proc.devRef .tc main_v4))) (hullH (V (Proc.devRef .tc main_v4))))) := by
  after_results <;> rfl

theorem read_y1s : after hostOps0_5 V (Proc.devRef .tc main_v54) = maximumf (downRows (subf (colY (V (Proc.devRef .tc main_v4))) (hullH (V (Proc.devRef .tc main_v4))))) (alongCols (subf (colY (V (Proc.devRef .tc main_v4))) (hullH (V (Proc.devRef .tc main_v4))))) := by
  after_results <;> rfl

theorem read_xs : after hostOps0_5 V (Proc.devRef .tc main_v65) =
    subf (minimumf (downRows (addf (offX (V (Proc.devRef .tc main_v4)) (V (Proc.devRef .tc main_v5))) (hullW (V (Proc.devRef .tc main_v4)))))
        (alongCols (addf (offX (V (Proc.devRef .tc main_v4)) (V (Proc.devRef .tc main_v5))) (hullW (V (Proc.devRef .tc main_v4))))))
      (maximumf (downRows (subf (offX (V (Proc.devRef .tc main_v4)) (V (Proc.devRef .tc main_v5))) (hullW (V (Proc.devRef .tc main_v4)))))
        (alongCols (subf (offX (V (Proc.devRef .tc main_v4)) (V (Proc.devRef .tc main_v5))) (hullW (V (Proc.devRef .tc main_v4)))))) := by
  after_results <;> rfl

theorem read_v66 : after hostOps0_6 V (Proc.devRef .tc main_v66) = maximumf (broadcastInDim S16x1000x1000 ![] bcast_S_S16x1000x1000 (V (Proc.devRef .tc main_cst_5))) (V (Proc.devRef .tc main_v65)) := by
  after_results <;> rfl

theorem read_v68 : after hostOps0_8 (after hostOps0_7 V) (Proc.devRef .tc main_v68) = maximumf (broadcastInDim S16x1000x1000 ![] bcast_S_S16x1000x1000 (constant S_ .f32 0x00000000#32)) (subf (V (Proc.devRef .tc main_v64)) (V (Proc.devRef .tc main_v54))) := by
  after_results <;> rfl

theorem read_v81 : after hostOps0_9 V (Proc.devRef .tc main_v84_1) =
    Host.divf (mulf (V (Proc.devRef .tc main_v66)) (V (Proc.devRef .tc main_v68))) (addf (subf (addf
      (downRows (mulf (subf (V (Proc.devRef .tc main_v43)) (V (Proc.devRef .tc main_v40))) (subf (V (Proc.devRef .tc main_v44)) (V (Proc.devRef .tc main_v41)))))
      (alongCols (mulf (subf (V (Proc.devRef .tc main_v43)) (V (Proc.devRef .tc main_v40))) (subf (V (Proc.devRef .tc main_v44)) (V (Proc.devRef .tc main_v41))))))
      (mulf (V (Proc.devRef .tc main_v66)) (V (Proc.devRef .tc main_v68))))
      (broadcastInDim S16x1000x1000 ![] bcast_S_S16x1000x1000 (constant S_ .f32 0x33D6BF95#32))) := by
  after_results <;> rfl

theorem read_840 : after hostOps0_9 V (Proc.devRef .tc main_v84_0) = (V (Proc.devRef .tc main_v7)) := by
  after_results <;> rfl

theorem read_842 : after hostOps0_9 V (Proc.devRef .tc main_v84_2) = iotaInDim S1000 32 0 := by
  after_results <;> rfl

theorem read_843 : after hostOps0_9 V (Proc.devRef .tc main_v84_3) = constantI S_ 32 0#32 := by
  after_results <;> rfl

theorem read_844 : after hostOps0_9 V (Proc.devRef .tc main_v84_4) = constantI S_ 32 0#32 := by
  after_results <;> rfl

theorem read_845 : after hostOps0_9 V (Proc.devRef .tc main_v84_5) = broadcastInDim S16x1000 ![] bcast_S_S16x1000 (constantI S_ 1 1#1) := by
  after_results <;> rfl

/-! ### After the loop -/

theorem read_fs : after hostOps0_11 (after hostOps0_10 V) (Proc.devRef .tc main_v86) =
    keptScores (V (Proc.devRef .tc main_v84_5)) (V (Proc.devRef .tc main_v7)) (V (Proc.devRef .tc main_values)) := by
  after_results <;> rfl

theorem read_oi : after hostOps0_12 V (Proc.devRef .tc main_indices_12) = outIdx (V (Proc.devRef .tc main_v86)) := by
  after_results <;> rfl

theorem read_ov : after hostOps0_12 V (Proc.devRef .tc main_values_11) = outVals (V (Proc.devRef .tc main_v86)) := by
  after_results <;> rfl

theorem read_v88 : after hostOps0_12 V (Proc.devRef .tc main_v88) = outOk (V (Proc.devRef .tc main_v86)) := by
  after_results <;> rfl

theorem read_v89 : after hostOps0_12 V (Proc.devRef .tc main_v89) = broadcastInDim S16x300x1 ![0, 1] bcast_S16x300_S16x300x1_0_1 (outOk (V (Proc.devRef .tc main_v86))) := by
  after_results <;> rfl

theorem read_v90 : after hostOps0_12 V (Proc.devRef .tc main_v90) = broadcastInDim S16x300x1 ![0, 1] bcast_S16x300_S16x300x1_0_1 (outIdx (V (Proc.devRef .tc main_v86))) := by
  after_results <;> rfl

theorem read_v91 : after hostOps0_13 V (Proc.devRef .tc main_v91) = takeBoxes2Col (V (Proc.devRef .tc main_v4)) (V (Proc.devRef .tc main_v90)) := by
  after_results <;> rfl

theorem read_v92 : after hostOps0_15 (after hostOps0_14 V) (Proc.devRef .tc main_v92) = select (broadcastInDim S16x300x5 ![0, 1, 2] bcast_S16x300x1_S16x300x5_0_1_2 (V (Proc.devRef .tc main_v89)))
    (V (Proc.devRef .tc main_v91)) (broadcastInDim S16x300x5 ![] bcast_S_S16x300x5 (constant S_ .f32 0x00000000#32)) := by
  after_results <;> rfl

theorem read_v93 : after hostOps0_17 (after hostOps0_16 V) (Proc.devRef .tc main_v93) = select (V (Proc.devRef .tc main_v88)) (V (Proc.devRef .tc main_values_11)) (broadcastInDim S16x300 ![] bcast_S_S16x300 (constant S_ .f32 0x00000000#32)) := by
  after_results <;> rfl

theorem read_v94 : after hostOps0_18 V (Proc.devRef .tc main_v94) = takeLabels2 (V (Proc.devRef .tc main_v5)) (V (Proc.devRef .tc main_indices_12)) := by
  after_results <;> rfl

theorem read_v95 : after hostOps0_20 (after hostOps0_19 V) (Proc.devRef .tc main_v95) = select (V (Proc.devRef .tc main_v88)) (V (Proc.devRef .tc main_v94)) (broadcastInDim S16x300 ![] bcast_S_S16x300 (constantI S_ 32 4294967295#32)) := by
  after_results <;> rfl

end Cert.ReferenceIdeal.Hand

end
-- ==== Proof.KHost.lean ====
/-
  The kernel program's host code and its run: what the region finds in its two input arrays, the array it leaves, block
  by block, and the three results read from that array.
-/
module

public import proofs.«01_k».proof.Proof.KBlock
public import proofs.«01_k».proof.Proof.RefValue
public import Idealize.ShloMosaic.Lib.Pipeline.ValueKit

@[expose] public section

set_option maxRecDepth 16384

noncomputable section

namespace Cert.KernelIdeal.Hand
open Cert.KernelIdeal Cert.KernelIdeal.Gen
open Idealize.ShloMosaic Idealize.ShloMosaic.TcCoe Idealize.ShloMosaic.Tactic Idealize.ShloMosaic.StableHlo Idealize.SL.Sem
open Idealize.ShloMosaic.Pipeline (Dat Cfg Window BodyObligation cellOf)
open Cert.ReferenceIdeal.Hand (valsOf idxOf takeBoxesCol takeBoxes takeLabels)

variable {F : FTy → Type} [FloatOps F]

/-- The buffers the stretch `hostOps0` writes, in order. -/
abbrev hostOps0_W : List (Ref sig .tc) := [main_cst, main_v0, main_v1, main_cst_0]
theorem hostOps0_writes : (hostOps0 : List (HloOp τ sig (Elt F))).Forall fun op => op.writes ⊆ (hostOps0_W.map (Proc.devRef (τ := τ) .tc)).toFinset :=
  forall_writes_sub_of_map rfl

/-- The buffers the stretch `hostOps0_1` writes, in order. -/
abbrev hostOps0_1_W : List (Ref sig .tc) := [main_call0_v0, main_call0_v1, main_v2]
theorem hostOps0_1_writes : (hostOps0_1 : List (HloOp τ sig (Elt F))).Forall fun op => op.writes ⊆ (hostOps0_1_W.map (Proc.devRef (τ := τ) .tc)).toFinset :=
  forall_writes_sub_of_map rfl

/-- The buffers the stretch `hostOps0_2` writes, in order. -/
abbrev hostOps0_2_W : List (Ref sig .tc) := [main_values, main_indices, main_v3]
theorem hostOps0_2_writes : (hostOps0_2 : List (HloOp τ sig (Elt F))).Forall fun op => op.writes ⊆ (hostOps0_2_W.map (Proc.devRef (τ := τ) .tc)).toFinset :=
  forall_writes_sub_of_map rfl

/-- The buffers the stretch `hostOps0_3` writes, in order. -/
abbrev hostOps0_3_W : List (Ref sig .tc) := [main_call1_c, main_call1_v0, main_call1_v1, main_call1_c_0, main_call1_v2, main_call1_v3, main_call1_v4, main_call1_c_1, main_call1_c_2, main_call1_v5, main_call1_v6, main_call1_v7, main_call1_v8, main_call1_v9, main_call1_v10, main_call1_c_3, main_call1_v11, main_call1_v12, main_call1_v13, main_call1_cst, main_call1_v14, main_v4]
theorem hostOps0_3_writes : (hostOps0_3 : List (HloOp τ sig (Elt F))).Forall fun op => op.writes ⊆ (hostOps0_3_W.map (Proc.devRef (τ := τ) .tc)).toFinset :=
  forall_writes_sub_of_map rfl

/-- The buffers the stretch `hostOps0_4` writes, in order. -/
abbrev hostOps0_4_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v5]
theorem hostOps0_4_writes : (hostOps0_4 : List (HloOp τ sig (Elt F))).Forall fun op => op.writes ⊆ (hostOps0_4_W.map (Proc.devRef (τ := τ) .tc)).toFinset :=
  forall_writes_sub_of_map rfl

/-- The buffers the stretch `hostOps0_5` writes, in order. -/
abbrev hostOps0_5_W : List (Ref sig .tc) := [main_cst_1]
theorem hostOps0_5_writes : (hostOps0_5 : List (HloOp τ sig (Elt F))).Forall fun op => op.writes ⊆ (hostOps0_5_W.map (Proc.devRef (τ := τ) .tc)).toFinset :=
  forall_writes_sub_of_map rfl

/-- The buffers the stretch `hostOps0_6` writes, in order. -/
abbrev hostOps0_6_W : List (Ref sig .tc) := [main_call3_v0, main_v6]
theorem hostOps0_6_writes : (hostOps0_6 : List (HloOp τ sig (Elt F))).Forall fun op => op.writes ⊆ (hostOps0_6_W.map (Proc.devRef (τ := τ) .tc)).toFinset :=
  forall_writes_sub_of_map rfl

/-- The buffers the stretch `hostOps0_7` writes, in order. -/
abbrev hostOps0_7_W : List (Ref sig .tc) := [main_c]
theorem hostOps0_7_writes : (hostOps0_7 : List (HloOp τ sig (Elt F))).Forall fun op => op.writes ⊆ (hostOps0_7_W.map (Proc.devRef (τ := τ) .tc)).toFinset :=
  forall_writes_sub_of_map rfl

/-- The buffers the stretch `hostOps0_8` writes, in order. -/
abbrev hostOps0_8_W : List (Ref sig .tc) := [main_call4_v0, main_v7]
theorem hostOps0_8_writes : (hostOps0_8 : List (HloOp τ sig (Elt F))).Forall fun op => op.writes ⊆ (hostOps0_8_W.map (Proc.devRef (τ := τ) .tc)).toFinset :=
  forall_writes_sub_of_map rfl

/-- The buffers the stretch `hostOps0_9` writes, in order. -/
abbrev hostOps0_9_W : List (Ref sig .tc) := [main_c_2]
theorem hostOps0_9_writes : (hostOps0_9 : List (HloOp τ sig (Elt F))).Forall fun op => op.writes ⊆ (hostOps0_9_W.map (Proc.devRef (τ := τ) .tc)).toFinset :=
  forall_writes_sub_of_map rfl

/-- The buffers the stretch `hostOps0_10` writes, in order. -/
abbrev hostOps0_10_W : List (Ref sig .tc) := [main_call5_v0, main_v8]
theorem hostOps0_10_writes : (hostOps0_10 : List (HloOp τ sig (Elt F))).Forall fun op => op.writes ⊆ (hostOps0_10_W.map (Proc.devRef (τ := τ) .tc)).toFinset :=
  forall_writes_sub_of_map rfl

/-- The buffers the stretch `hostOps0_11` writes, in order. -/
abbrev hostOps0_11_W : List (Ref sig .tc) := [main_v9, main_v10, main_v11, main_cst_3, main_v12, main_v13, main_v14]
theorem hostOps0_11_writes : (hostOps0_11 : List (HloOp τ sig (Elt F))).Forall fun op => op.writes ⊆ (hostOps0_11_W.map (Proc.devRef (τ := τ) .tc)).toFinset :=
  forall_writes_sub_of_map rfl

/-- The buffers the stretch `hostOps1` writes, in order. -/
abbrev hostOps1_W : List (Ref sig .tc) := [main_v16, main_v17, main_v18, main_v19, main_v20]
theorem hostOps1_writes : (hostOps1 : List (HloOp τ sig (Elt F))).Forall fun op => op.writes ⊆ (hostOps1_W.map (Proc.devRef (τ := τ) .tc)).toFinset :=
  forall_writes_sub_of_map rfl

/-- The buffers the stretch `hostOps1_1` writes, in order. -/
abbrev hostOps1_1_W : List (Ref sig .tc) := [main_v21]
theorem hostOps1_1_writes : (hostOps1_1 : List (HloOp τ sig (Elt F))).Forall fun op => op.writes ⊆ (hostOps1_1_W.map (Proc.devRef (τ := τ) .tc)).toFinset :=
  forall_writes_sub_of_map rfl

/-- The buffers the stretch `hostOps1_2` writes, in order. -/
abbrev hostOps1_2_W : List (Ref sig .tc) := [main_v22]
theorem hostOps1_2_writes : (hostOps1_2 : List (HloOp τ sig (Elt F))).Forall fun op => op.writes ⊆ (hostOps1_2_W.map (Proc.devRef (τ := τ) .tc)).toFinset :=
  forall_writes_sub_of_map rfl

/-- The table of detections handed to the region: box, score, label and a zero column, padded to 1024 rows. -/
def packed (vals : FVec F S16x1000 .f32) (b4 : FVec F S16x1000x5 .f32) (l5 : IVec S16x1000 32) : FVec F S16x1024x8 .f32 :=
  concatenate S16x1024x8 2
    [⟨S16x1024x5, pad S16x1024x5 ![0, 0, 0] ![0, 24, 0] ![0, 0, 0] b4 (sitofp .f32 (constantI S_ 32 0#32) : FVec F S_ .f32) pads_S16x1000x5_S16x1024x5_000_0240_000 h_S_⟩,
     ⟨S16x1024x1, broadcastInDim S16x1024x1 ![0, 1] bcast_S16x1024_S16x1024x1_0_1 (pad S16x1024 ![0, 0] ![0, 24] ![0, 0] vals (constant S_ .f32 0xCE6E6B28#32 : FVec F S_ .f32) pads_S16x1000_S16x1024_000_0240 h_S_)⟩,
     ⟨S16x1024x1, (sitofp .f32 (broadcastInDim S16x1024x1 ![0, 1] bcast_S16x1024_S16x1024x1_0_1 (pad S16x1024 ![0, 0] ![0, 24] ![0, 0] l5 (constantI S_ 32 4294967295#32) pads_S16x1000_S16x1024_000_0240 h_S_)) : FVec F S16x1024x1 .f32)⟩,
     ⟨S16x1024x1, broadcastInDim S16x1024x1 ![] bcast_S_S16x1024x1 (constant S_ .f32 0x00000000#32 : FVec F S_ .f32)⟩]
    concatenates_S16x1024x5_S16x1024x1_S16x1024x1_S16x1024x1_S16x1024x8_d2

/-- The same table, transposed. -/
def packedT (X : FVec F S16x1024x8 .f32) : FVec F S16x8x1024 .f32 := transpose S16x8x1024 [0, 2, 1] X transposes_S16x1024x8_S16x8x1024_0_2_1

section Reads

variable (V : Valuation τ sig (Elt F))

theorem read_vals : after hostOps0_2 (after hostOps0_1 (after hostOps0 V)) (Proc.devRef .tc main_values) = valsOf (V (Proc.devRef .tc main_arg1)) := by
  after_results <;> rfl

theorem read_idx : after hostOps0_2 (after hostOps0_1 (after hostOps0 V)) (Proc.devRef .tc main_indices) = idxOf (V (Proc.devRef .tc main_arg1)) := by
  after_results <;> rfl

theorem read_v3 : after hostOps0_2 (after hostOps0_1 (after hostOps0 V)) (Proc.devRef .tc main_v3)
    = broadcastInDim S16x1000x1 ![0, 1] bcast_S16x1000_S16x1000x1_0_1 (idxOf (V (Proc.devRef .tc main_arg1))) := by
  after_results <;> rfl

theorem read_v4 : after hostOps0_3 V (Proc.devRef .tc main_v4) = takeBoxesCol (V (Proc.devRef .tc main_arg0)) (V (Proc.devRef .tc main_v3)) := by
  after_results <;> rfl

theorem read_v5 : after hostOps0_4 V (Proc.devRef .tc main_v5) = takeLabels (V (Proc.devRef .tc main_arg2)) (V (Proc.devRef .tc main_indices)) := by
  after_results <;> rfl

/-- The packing stretch, up to the concatenation. -/
abbrev packPre : List (HloOp τ sig (Elt F)) := List.take 5 hostOps0_11
/-- The concatenation. -/
abbrev packCat : List (HloOp τ sig (Elt F)) := List.take 1 (List.drop 5 hostOps0_11)
/-- The transposition. -/
abbrev packTr : List (HloOp τ sig (Elt F)) := List.drop 6 hostOps0_11

theorem pack_eq : after hostOps0_11 V = after packTr (after packCat (after packPre V)) := rfl

theorem cat_v13 : after packCat V (Proc.devRef .tc main_v13) = concatenate S16x1024x8 2
    [⟨S16x1024x5, V (Proc.devRef .tc main_v7)⟩, ⟨S16x1024x1, V (Proc.devRef .tc main_v9)⟩,
     ⟨S16x1024x1, V (Proc.devRef .tc main_v11)⟩, ⟨S16x1024x1, V (Proc.devRef .tc main_v12)⟩]
    concatenates_S16x1024x5_S16x1024x1_S16x1024x1_S16x1024x1_S16x1024x8_d2 :=
by
  simp only [packCat, hostOps0_11, List.drop_succ_cons, List.drop_zero, List.take_succ_cons, List.take_zero]
  after_results <;> rfl

theorem read_v13 : after packCat (after packPre (after hostOps0_10 (after hostOps0_9 (after hostOps0_8 (after hostOps0_7 (after hostOps0_6 (after hostOps0_5 V))))))) (Proc.devRef .tc main_v13)
    = packed (V (Proc.devRef .tc main_values)) (V (Proc.devRef .tc main_v4)) (V (Proc.devRef .tc main_v5)) := by
  rw [cat_v13]
  simp only [packPre, hostOps0_11, List.take_succ_cons, List.take_zero]
  after_results <;> rfl

theorem tr_v13 : after packTr V (Proc.devRef .tc main_v13) = V (Proc.devRef .tc main_v13) := by
  simp only [packTr, hostOps0_11, List.drop_succ_cons, List.drop_zero]
  after_results <;> rfl

theorem tr_v14 : after packTr V (Proc.devRef .tc main_v14) = packedT (V (Proc.devRef .tc main_v13)) := by
  simp only [packTr, hostOps0_11, List.drop_succ_cons, List.drop_zero]
  after_results <;> rfl

/-- Operations in a row, the first stretch first. -/
theorem after_app (l k : List (HloOp τ sig (Elt F))) (V : Valuation τ sig (Elt F)) : after (l ++ k) V = after k (after l V) := by
  induction l generalizing V with
  | nil => rfl
  | cons a l ih => exact ih _

/-- The detections, of the arguments. -/
abbrev tableOf (x0 : FVec F S16x100000x5 .f32) (x1 : FVec F S16x100000 .f32) (x2 : IVec S16x100000 32) : FVec F S16x1024x8 .f32 :=
  packed (valsOf x1) (takeBoxes x0 (idxOf x1)) (takeLabels x2 (idxOf x1))

theorem pre_v13 : after (List.flatten [hostOps0, hostOps0_1, hostOps0_2, hostOps0_3, hostOps0_4, hostOps0_5, hostOps0_6, hostOps0_7, hostOps0_8, hostOps0_9, hostOps0_10, hostOps0_11]) V (Proc.devRef .tc main_v13) = (tableOf (V (Proc.devRef .tc main_arg0)) (V (Proc.devRef .tc main_arg1)) (V (Proc.devRef .tc main_arg2))) := by
  simp only [List.flatten_cons, List.flatten_nil, List.append_nil, after_app]
  rw [pack_eq, tr_v13, read_v13, after_of_writes_sub hostOps0_4 _ hostOps0_4_writes (by decide : main_values ∉ hostOps0_4_W), after_of_writes_sub hostOps0_3 _ hostOps0_3_writes (by decide : main_values ∉ hostOps0_3_W), read_vals, after_of_writes_sub hostOps0_4 _ hostOps0_4_writes (by decide : main_v4 ∉ hostOps0_4_W), read_v4, after_of_writes_sub hostOps0_2 _ hostOps0_2_writes (by decide : main_arg0 ∉ hostOps0_2_W), after_of_writes_sub hostOps0_1 _ hostOps0_1_writes (by decide : main_arg0 ∉ hostOps0_1_W), after_of_writes_sub hostOps0 _ hostOps0_writes (by decide : main_arg0 ∉ hostOps0_W), read_v3, read_v5, after_of_writes_sub hostOps0_3 _ hostOps0_3_writes (by decide : main_arg2 ∉ hostOps0_3_W), after_of_writes_sub hostOps0_2 _ hostOps0_2_writes (by decide : main_arg2 ∉ hostOps0_2_W), after_of_writes_sub hostOps0_1 _ hostOps0_1_writes (by decide : main_arg2 ∉ hostOps0_1_W), after_of_writes_sub hostOps0 _ hostOps0_writes (by decide : main_arg2 ∉ hostOps0_W), after_of_writes_sub hostOps0_3 _ hostOps0_3_writes (by decide : main_indices ∉ hostOps0_3_W), read_idx]
  rfl

theorem pre_v14 : after (List.flatten [hostOps0, hostOps0_1, hostOps0_2, hostOps0_3, hostOps0_4, hostOps0_5, hostOps0_6, hostOps0_7, hostOps0_8, hostOps0_9, hostOps0_10, hostOps0_11]) V (Proc.devRef .tc main_v14) = packedT (tableOf (V (Proc.devRef .tc main_arg0)) (V (Proc.devRef .tc main_arg1)) (V (Proc.devRef .tc main_arg2))) := by
  simp only [List.flatten_cons, List.flatten_nil, List.append_nil, after_app]
  rw [pack_eq, tr_v14, read_v13, after_of_writes_sub hostOps0_4 _ hostOps0_4_writes (by decide : main_values ∉ hostOps0_4_W), after_of_writes_sub hostOps0_3 _ hostOps0_3_writes (by decide : main_values ∉ hostOps0_3_W), read_vals, after_of_writes_sub hostOps0_4 _ hostOps0_4_writes (by decide : main_v4 ∉ hostOps0_4_W), read_v4, after_of_writes_sub hostOps0_2 _ hostOps0_2_writes (by decide : main_arg0 ∉ hostOps0_2_W), after_of_writes_sub hostOps0_1 _ hostOps0_1_writes (by decide : main_arg0 ∉ hostOps0_1_W), after_of_writes_sub hostOps0 _ hostOps0_writes (by decide : main_arg0 ∉ hostOps0_W), read_v3, read_v5, after_of_writes_sub hostOps0_3 _ hostOps0_3_writes (by decide : main_arg2 ∉ hostOps0_3_W), after_of_writes_sub hostOps0_2 _ hostOps0_2_writes (by decide : main_arg2 ∉ hostOps0_2_W), after_of_writes_sub hostOps0_1 _ hostOps0_1_writes (by decide : main_arg2 ∉ hostOps0_1_W), after_of_writes_sub hostOps0 _ hostOps0_writes (by decide : main_arg2 ∉ hostOps0_W), after_of_writes_sub hostOps0_3 _ hostOps0_3_writes (by decide : main_indices ∉ hostOps0_3_W), read_idx]
  rfl

/-- The three results, of the array the region leaves. -/
def out0 (Y : FVec F S16x384x8 .f32) : FVec F S16x300x5 .f32 := extractStridedSlice S16x300x5 ![0, 0, 0] Y slices_S16x384x8_S16x300x5_0_0_0
def out1 (Y : FVec F S16x384x8 .f32) : FVec F S16x300 .f32 := shapeCast S16x300 (extractStridedSlice S16x300x1 ![0, 0, 5] Y slices_S16x384x8_S16x300x1_0_0_5) shapeCasts_S16x300x1_S16x300
def out2 (Y : FVec F S16x384x8 .f32) : IVec S16x300 32 := fptosi 32 (Host.roundeven (shapeCast S16x300 (extractStridedSlice S16x300x1 ![0, 0, 6] Y slices_S16x384x8_S16x300x1_0_0_6) shapeCasts_S16x300x1_S16x300))

theorem post_v16 : after (List.flatten [hostOps1, hostOps1_1, hostOps1_2]) V (Proc.devRef .tc main_v16) = out0 (V (Proc.devRef .tc main_v15)) := by
  simp only [List.flatten_cons, List.flatten_nil, List.append_nil, after_app]
  after_results <;> rfl
theorem post_v18 : after (List.flatten [hostOps1, hostOps1_1, hostOps1_2]) V (Proc.devRef .tc main_v18) = out1 (V (Proc.devRef .tc main_v15)) := by
  simp only [List.flatten_cons, List.flatten_nil, List.append_nil, after_app]
  after_results <;> rfl
theorem post_v22 : after (List.flatten [hostOps1, hostOps1_1, hostOps1_2]) V (Proc.devRef .tc main_v22) = out2 (V (Proc.devRef .tc main_v15)) := by
  simp only [List.flatten_cons, List.flatten_nil, List.append_nil, after_app]
  after_results <;> rfl

end Reads

/-- One image's detections. -/
def slab (X : FVec F S16x1024x8 .f32) (b : Fin 16) : Vec F S1x1024x8 .f32 := fun j => X (ix3 b ((j 1).cast rfl) ((j 2).cast rfl))
/-- The same, transposed. -/
def slabT (X : FVec F S16x8x1024 .f32) (b : Fin 16) : Vec F S1x8x1024 .f32 := fun j => X (ix3 b ((j 1).cast rfl) ((j 2).cast rfl))

/-- What one grid point writes back, of its two input blocks. -/
def outBlk (x0 : Vec F S1x1024x8 .f32) (x1 : Vec F S1x8x1024 .f32) : FVec F S1x384x8 .f32 :=
  k0_pay1 (k0_pay31 (k0_pay2 x0) (k0_pay3 x1) (keepAt (iouTab x0 x1) 1024)) (iota Kind.tc S384x8 32 [1] iota_S384x8_d1_w32) k0_pay32

/-- The array after the run. -/
def outArr (X : FVec F S16x1024x8 .f32) : FVec F S16x384x8 .f32 :=
  fun i => outBlk (slab X ((i 0).cast rfl)) (slabT (packedT X) ((i 0).cast rfl)) (ix3 0 ((i 1).cast rfl) ((i 2).cast rfl))

section Run

variable (m : (ℓ : Loc nD τ sig) → Buf (Elt F) ℓ) (c : Dev nD)

/-- The arguments, as tables. -/
abbrev arg0 : FVec F S16x100000x5 .f32 := m ((c.tc : Thread nD τ).loc main_arg0)
abbrev arg1 : FVec F S16x100000 .f32 := m ((c.tc : Thread nD τ).loc main_arg1)
abbrev arg2 : IVec S16x100000 32 := m ((c.tc : Thread nD τ).loc main_arg2)

/-- The detections. -/
abbrev table : FVec F S16x1024x8 .f32 := tableOf (arg0 m c) (arg1 m c) (arg2 m c)

/-- The block index of every window at point `t`: image `t`. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

/-- A grid point, as an image. -/
abbrev img (t : Fin cfg0.N) : Fin 16 := ⟨t.val, lt_of_lt_of_eq t.isLt N_0⟩

theorem iblk0_eq (t : Fin cfg0.N) : iblk m c 0 t = slab (table m c) (img t) := by
  have hV : V m c (Pipeline.arrRef spec0 0) = table m c := pre_v13 _
  unfold iblk
  rw [hV]
  funext j
  blk_ext [idx t] <;> rfl

theorem iblk1_eq (t : Fin cfg0.N) : iblk m c 1 t = slabT (packedT (table m c)) (img t) := by
  have hV : V m c (Pipeline.arrRef spec0 1) = packedT (table m c) := pre_v14 _
  unfold iblk
  rw [hV]
  funext j
  blk_ext [idx t] <;> rfl

theorem final_arr : (dats m 0 c).arrAt 2 cfg0.N = outArr (table m c) := by
  refine (dats m 0 c).arrAt_eq_of_covers 2 _ (by decide +kernel) fun t hf y => ?_
  blk_simp
  rw [after0_2, outsAt0_eq, iblk0_eq, iblk1_eq]
  have he : ∀ Y : FVec F S16x384x8 .f32, Y ((win0_2.blk t).view.emb y) = Y (ix3 (img t) ((y 1).cast rfl) ((y 2).cast rfl)) := by
    intro Y
    blk_ext [idx t] <;> rfl
  refine Eq.trans ?_ (he _).symm
  have hy : y = ix3 0 ((y 1).cast rfl) ((y 2).cast rfl) := by
    funext a
    apply Fin.ext
    have h0 : (y 0).val < 1 := (y 0).isLt
    fin_cases a
    · show (y 0).val = 0
      omega
    · rfl
    · rfl
  exact congrArg (outBlk (slab (table m c) (img t)) (slabT (packedT (table m c)) (img t))) hy

theorem spec_inj : Function.Injective (Pipeline.arrRef spec0) := by decide

/-- The run, with its three results. -/
theorem run (ρ : Dev nD → PrngReg) : θ_run (defs (F := F)) (onTc (τ := τ) (main (F := F))) ⟨m, fun _ => 0, ρ⟩ (fun r => ∀ c : Dev nD,
    r.2.mem ((c.tc : Thread nD τ).loc main_v16) = out0 (outArr (table m c)) ∧
    r.2.mem ((c.tc : Thread nD τ).loc main_v18) = out1 (outArr (table m c)) ∧
    r.2.mem ((c.tc : Thread nD τ).loc main_v22) = out2 (outArr (table m c)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2)) := by
  refine (θ_run (defs (F := F)) _ _).mono (fun r h c => ?_) (θ_run_and (run_main m ρ) (unchanged m ρ))
  obtain ⟨h, hu⟩ := h
  have hr := (h c).2
  have ha : Pipeline.withArrays (cfgs 0).spec c (V0 m c) (fun w => (dats m 0 c).arrAt w (cfgs 0).N) (Proc.devRef .tc main_v15) = outArr (table m c) :=
    (Pipeline.withArrays_arr (cfgs 0).spec spec_inj c (V0 m c) (fun w => (dats m 0 c).arrAt w (cfgs 0).N) 2).trans (final_arr m c)
  refine ⟨(hr main_v16 (by decide)).trans ?_, (hr main_v18 (by decide)).trans ?_, (hr main_v22 (by decide)).trans ?_, hu c⟩
  · exact (post_v16 _).trans (congrArg out0 ha)
  · exact (post_v18 _).trans (congrArg out1 ha)
  · exact (post_v22 _).trans (congrArg out2 ha)

end Run

end Cert.KernelIdeal.Hand

end
-- ==== Proof.Select.lean ====
/-
  Reading the selections of both programs at an index: the largest entries of each row of a table, and the rows of a
  table named by a column of places, per image.
-/
module

public import Idealize.ShloMosaic.Lib.ValueIdx
public import Idealize.ShloMosaic.Lib.Pointwise
public import Idealize.ShloMosaic.Lib.SortFacts
public import Idealize.ShloMosaic.Lib.WordArith

@[expose] public section

noncomputable section

namespace Select

open Idealize.ShloMosaic

variable {α : Type} {B N R C w : ℕ}

/-! ### Bits -/

theorem andi_one (x y : BitVec 1) : IntOp.andi x y = 1#1 ↔ x = 1#1 ∧ y = 1#1 := by revert x y; decide

theorem noti_one (x : BitVec 1) : (~~~x) = 1#1 ↔ ¬ x = 1#1 := by revert x; decide

theorem select_bit (c x y : BitVec 1) : Scalar.select c x y = 1#1 ↔ (c = 1#1 ∧ x = 1#1) ∨ (¬ c = 1#1 ∧ y = 1#1) := by revert c x y; decide

theorem ofBool_one (p : Prop) [Decidable p] : BitVec.ofBool (decide p) = 1#1 ↔ p := by by_cases h : p <;> simp [h]

theorem ofBool_eq (p : Prop) [Decidable p] : BitVec.ofBool (decide p) = if p then 1#1 else 0#1 := by by_cases h : p <;> simp [h]

theorem select_eq {β : Type} (c : BitVec 1) (x y : β) : Scalar.select c x y = if c = 1#1 then x else y := rfl

theorem toInt_small (p : ℕ) (hp : p < 2147483648) : (BitVec.ofNat 32 p).toInt = p := by
  rw [BitVec.toInt_eq_toNat_of_lt] <;> rw [BitVec.toNat_ofNat, Nat.mod_eq_of_lt (by omega)]
  omega

theorem sgt_one (j k : ℕ) (hj : j < 2147483648) (hk : k < 2147483648) : IntOp.cmpi .sgt (BitVec.ofNat 32 j) (BitVec.ofNat 32 k) = 1#1 ↔ k < j := by
  show BitVec.ofBool (BitVec.slt (BitVec.ofNat 32 k) (BitVec.ofNat 32 j)) = 1#1 ↔ _
  rw [BitVec.slt, ofBool_one, toInt_small j hj, toInt_small k hk]
  omega

theorem sle_one (j k : ℕ) (hj : j < 2147483648) (hk : k < 2147483648) : IntOp.cmpi .sle (BitVec.ofNat 32 j) (BitVec.ofNat 32 k) = 1#1 ↔ j ≤ k := by
  show BitVec.ofBool (BitVec.sle (BitVec.ofNat 32 j) (BitVec.ofNat 32 k)) = 1#1 ↔ _
  rw [BitVec.sle, ofBool_one, toInt_small j hj, toInt_small k hk]
  omega

theorem eq_one (j k : ℕ) (hj : j < 2147483648) (hk : k < 2147483648) : IntOp.cmpi .eq (BitVec.ofNat 32 j) (BitVec.ofNat 32 k) = 1#1 ↔ j = k := by
  show BitVec.ofBool (BitVec.ofNat 32 j == BitVec.ofNat 32 k) = 1#1 ↔ _
  have : (BitVec.ofNat 32 j = BitVec.ofNat 32 k) ↔ j = k := by
    constructor
    · intro h
      have := congrArg BitVec.toNat h
      simp only [BitVec.toNat_ofNat] at this
      omega
    · rintro rfl; rfl
  by_cases h : j = k
  · subst h; simp
  · have h' : ¬ (BitVec.ofNat 32 j = BitVec.ofNat 32 k) := fun x => h (this.mp x)
    rw [beq_eq_false_iff_ne.mpr h']
    simp [h]

/-! ### Gathers -/

/-- The place of entry `r` of image `b` in a column of places. -/
theorem column (b : Fin B) (r : Fin R) (s : (⟨3, ![B, R, 1]⟩ : Shape).Idx) (h0 : (s 0).val = b.val) (h1 : (s 1).val = r.val) :
    s = ix3 b r 0 := by
  funext a
  apply Fin.ext
  have h2 : (s 2).val < 1 := (s 2).isLt
  fin_cases a
  · exact h0
  · exact h1
  · show (s 2).val = 0
    omega

/-- Rows of a table of rows, per image. -/
theorem gather_rows (d : GatherDims ⟨3, ![B, N, C]⟩ ⟨3, ![B, R, 1]⟩ ⟨3, ![B, R, C]⟩)
    (wf) (hd : d = ⟨[2], [1], [0], [0], [1], 2, ![1, 1, C], wf⟩)
    (x : (⟨3, ![B, N, C]⟩ : Shape).Idx → α) (idx : IVec ⟨3, ![B, R, 1]⟩ w) (b : Fin B) (r : Fin R) (ch : Fin C) (p : Fin N)
    (hp : (idx (ix3 b r 0)).toInt.toNat = p.val) :
    Host.gather d x idx (ix3 b r ch) = x (ix3 b p ch) := by
  subst hd
  unfold Host.gather
  congr 1
  funext a
  refine Fin.ext ?_
  show GatherDims.start _ _ _ _ + GatherDims.batchCoord _ _ _ + GatherDims.offCoord _ _ _ = _
  have hN : p.val < N := p.isLt
  fin_cases a
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    refine (dif_pos ?_).trans ?_
    · exact List.mem_singleton.mpr rfl
    · rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos ?_).trans ?_
    · exact List.mem_singleton.mpr rfl
    · refine (congrArg (fun t => min (idx t).toInt.toNat (N - 1)) (column b r _ rfl rfl)).trans ?_
      show min (idx (ix3 b r 0)).toInt.toNat (N - 1) = p.val
      omega
  · rw [GatherDims.batchCoord_eq_zero _ _ _ (fun h => by simp at h)]
    have h2 : GatherDims.start (⟨[2], [1], [0], [0], [1], 2, ![1, 1, C], wf⟩ : GatherDims ⟨3, ![B, N, C]⟩ ⟨3, ![B, R, 1]⟩ ⟨3, ![B, R, C]⟩) (ix3 b r ch) idx 2 = 0 := by
      unfold GatherDims.start
      rw [dif_neg (fun h => by simp at h)]
    refine (congrArg (· + 0 + _) h2).trans ?_
    simp only [Nat.zero_add]
    rfl

/-- Entries of a table, per image. -/
theorem gather_entries (d : GatherDims ⟨2, ![B, N]⟩ ⟨3, ![B, R, 1]⟩ ⟨2, ![B, R]⟩)
    (wf) (hd : d = ⟨[], [1], [0], [0], [1], 2, ![1, 1], wf⟩)
    (x : (⟨2, ![B, N]⟩ : Shape).Idx → α) (idx : IVec ⟨3, ![B, R, 1]⟩ w) (b : Fin B) (r : Fin R) (p : Fin N)
    (hp : (idx (ix3 b r 0)).toInt.toNat = p.val) :
    Host.gather d x idx (ix2 b r) = x (ix2 b p) := by
  subst hd
  unfold Host.gather
  congr 1
  funext a
  refine Fin.ext ?_
  show GatherDims.start _ _ _ _ + GatherDims.batchCoord _ _ _ + GatherDims.offCoord _ _ _ = _
  have hN : p.val < N := p.isLt
  fin_cases a
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    refine (dif_pos ?_).trans ?_
    · exact List.mem_singleton.mpr rfl
    · rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    refine (dif_pos ?_).trans ?_
    · exact List.mem_singleton.mpr rfl
    · refine (congrArg (fun t => min (idx t).toInt.toNat (N - 1)) (column b r _ rfl rfl)).trans ?_
      show min (idx (ix3 b r 0)).toInt.toNat (N - 1) = p.val
      omega

/-- The order in which image `b`'s entries are taken: the larger first, of two equals the earlier. -/
def place (x : FVec Ideal ⟨2, ![B, N]⟩ .f32) (b : Fin B) : Fin N → Fin N :=
  sortedFrom (fun k k' => decide (x (ix2 b k') < x (ix2 b k)))

theorem along (b : Fin B) (r k : Fin N) : Shape.Idx.along (s := ⟨2, ![B, N]⟩) (ix2 b r) 1 k = ix2 b k := by
  funext a
  fin_cases a <;> rfl

/-- The largest entries of each row, and where they stand. -/
theorem topK_apply (x : FVec Ideal ⟨2, ![B, N]⟩ .f32) (h : (⟨2, ![B, N]⟩ : Shape).Slices (fun _ => 0) ⟨2, ![B, R]⟩) (hR : R ≤ N)
    (b : Fin B) (r : Fin R) :
    (Host.topK ⟨2, ![B, R]⟩ 1 (FloatOps.cmpfTotal .gt) x h).1 (ix2 b r) = x (ix2 b (place x b (r.castLE hR))) ∧
    (Host.topK ⟨2, ![B, R]⟩ 1 (FloatOps.cmpfTotal .gt) x h).2 (ix2 b r) = BitVec.ofNat 32 (place x b (r.castLE hR)).val := by
  have hsrc : ∀ (β : Type) (y : (⟨2, ![B, N]⟩ : Shape).Idx → β), extractStridedSlice ⟨2, ![B, R]⟩ (fun _ => 0) y h (ix2 b r) = y (ix2 b (r.castLE hR)) := by
    intro β y
    unfold extractStridedSlice
    congr 1
    funext a
    apply Fin.ext
    fin_cases a <;> simp
  have hb : (fun k k' : Fin N => (FloatOps.cmpfTotal .gt (x (ix2 b k)) (x (ix2 b k')) == 1#1 : Bool)) = fun k k' => decide (x (ix2 b k') < x (ix2 b k)) := by
    funext k k'
    show (BitVec.ofBool (decide (x (ix2 b k') < x (ix2 b k))) == 1#1) = _
    by_cases hx : x (ix2 b k') < x (ix2 b k) <;> simp [hx]
  unfold Host.topK
  dsimp only
  rw [hsrc, hsrc]
  unfold Host.sort2
  rw [dif_pos (by decide : (1 : ℕ) < 2)]
  dsimp only
  have hπ : sortedFrom (fun k k' : Fin N => (FloatOps.cmpfTotal .gt (x (Shape.Idx.along (s := ⟨2, ![B, N]⟩) (ix2 b (r.castLE hR)) 1 k)) (x (Shape.Idx.along (s := ⟨2, ![B, N]⟩) (ix2 b (r.castLE hR)) 1 k')) == 1#1 : Bool)) (r.castLE hR)
      = place x b (r.castLE hR) := by
    simp only [along]
    rw [hb]
    rfl
  constructor
  · refine (congrArg (fun p => x (Shape.Idx.along (s := ⟨2, ![B, N]⟩) (ix2 b (r.castLE hR)) 1 p)) hπ).trans ?_
    rw [along]
  · rw [dif_pos (by decide : (1 : ℕ) < 2)]
    refine (congrArg (fun p => iotaInDim ⟨2, ![B, N]⟩ 32 1 (Shape.Idx.along (s := ⟨2, ![B, N]⟩) (ix2 b (r.castLE hR)) 1 p)) hπ).trans ?_
    rw [along]
    rfl

/-- The entries come in descending order. -/
theorem place_desc (x : FVec Ideal ⟨2, ![B, N]⟩ .f32) (b : Fin B) (i j : Fin N) (hij : i < j) :
    x (ix2 b (place x b j)) ≤ x (ix2 b (place x b i)) := by
  have h := sortedFrom_noInversion (fun k k' : Fin N => decide (x (ix2 b k') < x (ix2 b k))) (fun k k' => decide (x (ix2 b k') < x (ix2 b k)))
    (fun p q h => by simp only [decide_eq_true_eq, decide_eq_false_iff_not, not_lt] at h ⊢; exact h.le)
    (fun p q h => h)
    (fun p q t h h' => by simp only [decide_eq_false_iff_not, not_lt] at h h' ⊢; exact h.trans h') i j hij
  simp only [decide_eq_false_iff_not, not_lt] at h
  exact h

end Select

end
-- ==== Proof.Spec.lean ====
/-
  The mathematics of greedy suppression without any program: the loop that visits the boxes in order and lets each
  surviving one strike later boxes, why a loop over a padded list agrees with the loop over the list, what "the r-th
  surviving box" is, and that sorting the scores with the struck ones put last lists exactly the survivors in order.
-/
module

public import Idealize.ShloMosaic.Lib.SortFacts
public import Mathlib.Data.Nat.Count
public import Mathlib.Data.List.FinRange

@[expose] public section

namespace Greedy

open Classical in
/-- Which boxes survive before visit `k`: visit `k` strikes the later boxes that `sup k` names, if box `k` is in play
    and still there. -/
def keep (n : ℕ) (valid : Fin n → Prop) (sup : Fin n → Fin n → Prop) : ℕ → Fin n → Prop
  | 0, _ => True
  | k + 1, j => if h : k < n then keep n valid sup k j ∧ ¬ (keep n valid sup k ⟨k, h⟩ ∧ valid ⟨k, h⟩ ∧ sup ⟨k, h⟩ j ∧ k < j.val)
      else keep n valid sup k j

variable {n N : ℕ} {valid : Fin n → Prop} {sup : Fin n → Fin n → Prop}

theorem keep_succ (k : ℕ) (h : k < n) (j : Fin n) : keep n valid sup (k + 1) j ↔
    (keep n valid sup k j ∧ ¬ (keep n valid sup k ⟨k, h⟩ ∧ valid ⟨k, h⟩ ∧ sup ⟨k, h⟩ j ∧ k < j.val)) := by
  rw [keep, dif_pos h]

theorem keep_succ_of_le (k : ℕ) (j : Fin n) (h : j.val ≤ k) : keep n valid sup (k + 1) j ↔ keep n valid sup k j := by
  rw [keep]; split
  · constructor
    · exact fun x => x.1
    · exact fun x => ⟨x, fun y => absurd y.2.2.2 (by omega)⟩
  · rfl

theorem keep_of_le (k d : ℕ) (j : Fin n) (h : j.val ≤ k) : keep n valid sup (k + d) j ↔ keep n valid sup k j := by
  induction d with
  | zero => rfl
  | succ d ih => rw [← Nat.add_assoc, keep_succ_of_le _ _ (by omega), ih]

/-- A loop over a longer list, on the entries in play, which come first. -/
theorem keep_padded (hn : n ≤ N) (sup' : Fin N → Fin N → Prop)
    (hdown : ∀ i j : Fin n, i < j → valid j → valid i)
    (hsup : ∀ i j : Fin n, valid i → valid j → (sup i j ↔ sup' (i.castLE hn) (j.castLE hn)))
    (j : Fin n) (hj : valid j) :
    keep n valid sup n j ↔ keep N (fun _ => True) sup' N (j.castLE hn) := by
  have main : ∀ k, k ≤ n → ∀ j : Fin n, valid j →
      (keep n valid sup k j ↔ keep N (fun _ => True) sup' k (j.castLE hn)) := by
    intro k
    induction k with
    | zero => intro _ j _; rfl
    | succ k ih =>
      intro hk j hj
      have hkn : k < n := hk
      by_cases hlt : k < j.val
      · have hvk : valid ⟨k, hkn⟩ := hdown ⟨k, hkn⟩ j hlt hj
        rw [keep_succ k hkn, keep_succ k (by omega), ih (by omega) j hj, ih (by omega) ⟨k, hkn⟩ hvk]
        have := hsup ⟨k, hkn⟩ j hvk hj
        simp only [Fin.castLE_mk, Fin.val_castLE] at this ⊢
        simp only [this, hvk, true_and]
      · rw [keep_succ_of_le k j (by omega), keep_succ_of_le k _ (by simp only [Fin.val_castLE]; omega)]
        exact ih (by omega) j hj
  rw [main n le_rfl j hj]
  have := keep_of_le (valid := fun _ : Fin N => True) (sup := sup') n (N - n) (j.castLE hn) (by simp only [Fin.val_castLE]; omega)
  rw [Nat.add_sub_cancel' hn] at this
  exact this.symm

/-! ### The r-th survivor -/

open Classical in
/-- Place `j` is the `r`-th place at which `P` holds. -/
def IsNth (P : ℕ → Prop) (r j : ℕ) : Prop := P j ∧ Nat.count P j = r

theorem IsNth.unique {P : ℕ → Prop} {r i j : ℕ} (hi : IsNth P r i) (hj : IsNth P r j) : i = j := by
  classical
  exact Nat.count_injective hi.1 hj.1 (hi.2.trans hj.2.symm)

open Classical in
theorem length_filter_range (P : ℕ → Prop) (n : ℕ) : ((List.range n).filter (fun i => decide (P i))).length = Nat.count P n := by
  induction n with
  | zero => simp
  | succ n ih =>
    rw [List.range_succ, List.filter_append, List.length_append, ih, Nat.count_succ]
    by_cases h : P n <;> simp [h]

open Classical in
theorem filter_range_getElem (P : ℕ → Prop) (n r : ℕ) (h : r < ((List.range n).filter (fun i => decide (P i))).length) :
    IsNth P r (((List.range n).filter (fun i => decide (P i)))[r]) := by
  induction n with
  | zero => simp at h
  | succ n ih =>
    by_cases hr : r < ((List.range n).filter (fun i => decide (P i))).length
    · have := ih hr
      simp only [List.range_succ, List.filter_append]
      rw [List.getElem_append_left hr]
      exact this
    · have hlen : ((List.range n).filter (fun i => decide (P i))).length = Nat.count P n := length_filter_range P n
      by_cases hP : P n
      · have h1 : r = Nat.count P n := by
          simp only [List.range_succ, List.filter_append, List.length_append] at h
          have : (List.filter (fun i => decide (P i)) [n]).length ≤ 1 := List.length_filter_le _ _
          omega
        simp only [List.range_succ, List.filter_append]
        rw [List.getElem_append_right (by omega)]
        simp only [List.filter_cons, hP, decide_true, if_true, List.filter_nil, List.getElem_singleton]
        exact ⟨hP, h1.symm⟩
      · simp only [List.range_succ, List.filter_append, List.length_append, List.filter_cons, hP, decide_false, List.filter_nil] at h
        simp at h
        omega

/-! ### Sorting with the struck ones last -/

open Idealize.ShloMosaic in
theorem stableSort_holes {ι : Type} [LT ι] (before : ι → ι → Bool) (kept : ι → Bool)
    (l : List ι)
    (h1 : ∀ a b, kept a = true → kept b = false → before a b = true)
    (h2 : ∀ a b, kept a = false → before a b = false)
    (h3 : l.Pairwise fun a b => kept a = true → kept b = true → before b a = false) :
    stableSort before l = l.filter kept ++ l.filter (fun a => !kept a) := by
  induction l with
  | nil => rfl
  | cons a l ih =>
    have h3' := List.pairwise_cons.1 h3
    rw [stableSort, ih h3'.2]
    cases ha : kept a with
    | true =>
      simp only [List.filter_cons, ha, if_true, Bool.not_true, Bool.false_eq_true, if_false, List.cons_append]
      have hstop : ∀ m : List ι, (∀ b ∈ m, before b a = false) → insertBefore before a m = a :: m := by
        intro m hm
        cases m with
        | nil => rfl
        | cons b m => rw [insertBefore, hm b (by simp)]; rfl
      apply hstop
      intro b hb
      cases hb' : kept b with
      | true =>
        have : b ∈ l := by
          rcases List.mem_append.1 hb with h | h <;> exact List.mem_of_mem_filter h
        exact h3'.1 b this ha hb'
      | false => exact h2 b a hb'
    | false =>
      simp only [List.filter_cons, ha, Bool.not_false, if_true, Bool.false_eq_true, if_false]
      have hpass : ∀ m m' : List ι, (∀ b ∈ m, kept b = true) → (∀ b ∈ m', kept b = false) →
          insertBefore before a (m ++ m') = m ++ a :: m' := by
        intro m m' hm hm'
        induction m with
        | nil =>
          cases m' with
          | nil => rfl
          | cons b m' => simp only [List.nil_append]; rw [insertBefore, h2 b a (hm' b (by simp))]; rfl
        | cons b m ihm =>
          simp only [List.cons_append]
          rw [insertBefore, h1 b a (hm b (by simp)) ha, if_pos rfl, ihm (fun c hc => hm c (by simp [hc]))]
      apply hpass
      · intro b hb; exact (List.mem_filter.1 hb).2
      · intro b hb; simpa using (List.mem_filter.1 hb).2

open Classical Idealize.ShloMosaic in
/-- Where the `r`-th place of the sorted list comes from: the `r`-th survivor, or a struck place when there is none. -/
theorem sortedFrom_holes {n : ℕ} (before : Fin n → Fin n → Bool) (P : ℕ → Prop)
    (h1 : ∀ a b : Fin n, P a → ¬ P b → before a b = true)
    (h2 : ∀ a b : Fin n, ¬ P a → before a b = false)
    (h3 : ∀ a b : Fin n, a < b → P a → P b → before b a = false) (r : Fin n) :
    IsNth P r (sortedFrom before r) ∨ ((∀ j < n, ¬ IsNth P r j) ∧ ¬ P (sortedFrom before r)) := by
  have hs := stableSort_holes before (fun a : Fin n => decide (P a)) (List.finRange n)
    (fun a b ha hb => h1 a b (by simpa using ha) (by simpa using hb))
    (fun a b ha => h2 a b (by simpa using ha))
    ((List.pairwise_lt_finRange n).imp fun {a b} hab ha hb => h3 a b hab (by simpa using ha) (by simpa using hb))
  have hmap : ((List.finRange n).filter (fun a : Fin n => decide (P a))).map Fin.val = (List.range n).filter (fun i => decide (P i)) := by
    rw [← List.map_coe_finRange_eq_range, List.filter_map]; rfl
  have hget : ∃ h, sortedFrom before r = ((List.finRange n).filter (fun a : Fin n => decide (P a)) ++ (List.finRange n).filter (fun a : Fin n => !decide (P a)))[r.val]'h := by
    refine ⟨by rw [← hs]; exact (r.cast (length_sortPositions n before).symm).isLt, ?_⟩
    simp only [← hs]
    rfl
  obtain ⟨h, hget⟩ := hget
  by_cases hr : r.val < ((List.finRange n).filter (fun a : Fin n => decide (P a))).length
  · left
    rw [hget, List.getElem_append_left hr]
    have hr' : r.val < ((List.range n).filter (fun i => decide (P i))).length := by rw [← hmap]; simpa using hr
    have := filter_range_getElem P n r.val hr'
    simp only [← hmap, List.getElem_map] at this
    exact this
  · right
    constructor
    · intro j hj hN
      apply hr
      have hlen : ((List.finRange n).filter (fun a : Fin n => decide (P a))).length = Nat.count P n := by
        rw [← List.length_map (f := Fin.val), hmap, length_filter_range]
      rw [hlen, ← hN.2]
      exact Nat.count_strict_mono hN.1 hj
    · rw [hget, List.getElem_append_right (by omega)]
      have := List.getElem_mem (l := (List.finRange n).filter (fun a : Fin n => !decide (P a))) (n := r.val - ((List.finRange n).filter (fun a : Fin n => decide (P a))).length) (by simp only [List.length_append] at h; omega)
      simpa using (List.mem_filter.1 this).2

end Greedy
-- ==== Proof.Overlap.lean ====
/-
  The overlap of two boxes over the extended reals, as the reference writes it (every class moved to its own strip of
  the plane) and as the kernel does (overlaps of different classes set to zero), and why both pass the same boxes.
-/
module

public import Idealize.ShloMosaic.Lib.ValueIdx
public import Idealize.ShloMosaic.Lib.Pointwise

@[expose] public section

noncomputable section

namespace Overlap

open Idealize.ShloMosaic

/-! ### The constants -/

theorem half_val : Ideal.ofBits FTy.f32 1056964608#32 = ((1 / 2 : ℝ) : EReal) := by
  simp [Ideal.ofBits, Ideal.ieee, -EReal.coe_mul, -EReal.coe_neg]; norm_num

theorem strip_val : Ideal.ofBits FTy.f32 1203982336#32 = ((100000 : ℝ) : EReal) := by
  simp [Ideal.ofBits, Ideal.ieee, -EReal.coe_mul, -EReal.coe_neg]; norm_num

theorem limit_val : Ideal.ofBits FTy.f32 0x47435000#32 = ((50000 : ℝ) : EReal) := by
  simp [Ideal.ofBits, Ideal.ieee, -EReal.coe_mul, -EReal.coe_neg]; norm_num

theorem play_val : Ideal.ofBits FTy.f32 3454954280#32 = ((-500000000 : ℝ) : EReal) := by
  simp [Ideal.ofBits, Ideal.ieee, -EReal.coe_mul, -EReal.coe_neg]; norm_num

theorem out_val : Ideal.ofBits FTy.f32 3463342888#32 = ((-1000000000 : ℝ) : EReal) := by
  simp [Ideal.ofBits, Ideal.ieee, -EReal.coe_mul, -EReal.coe_neg]; norm_num

theorem out_lt_play : Ideal.ofBits FTy.f32 3463342888#32 < Ideal.ofBits FTy.f32 3454954280#32 := by
  rw [play_val, out_val]; exact EReal.coe_lt_coe_iff.mpr (by norm_num)

/-! ### Overlap of rectangles -/

/-- The common area of two rectangles given by their sides. -/
def inter (x1 y1 x2 y2 u1 v1 u2 v2 : EReal) : EReal :=
  max 0 (min x2 u2 - max x1 u1) * max 0 (min y2 v2 - max y1 v1)

/-- The common area over the joint area. -/
def iou (x1 y1 x2 y2 u1 v1 u2 v2 : EReal) : EReal :=
  Ideal.div (inter x1 y1 x2 y2 u1 v1 u2 v2)
    ((x2 - x1) * (y2 - y1) + (u2 - u1) * (v2 - v1) - inter x1 y1 x2 y2 u1 v1 u2 v2 + Ideal.ofBits FTy.f32 869711765#32)

/-- Half the hull's width as the reference writes it. -/
def hullR (w h c s : EReal) : EReal := Ideal.ofBits FTy.f32 1056964608#32 * (FloatOps.absf (F := Ideal) (φ := .f32) (w * c) + FloatOps.absf (F := Ideal) (φ := .f32) (h * s))

/-- And as the kernel writes it. -/
def hullK (w h c s : EReal) : EReal := (w * FloatOps.absf (F := Ideal) (φ := .f32) c + h * FloatOps.absf (F := Ideal) (φ := .f32) s) * Ideal.ofBits FTy.f32 1056964608#32

/-- The overlap of two boxes in the reference: every class in its own strip. -/
def iouRef (x y w h a p u v w' h' a' q : EReal) : EReal :=
  iou (x + p * Ideal.ofBits FTy.f32 1203982336#32 - hullR w h (Ideal.cos a) (Ideal.sin a)) (y - hullR w h (Ideal.sin a) (Ideal.cos a))
    (x + p * Ideal.ofBits FTy.f32 1203982336#32 + hullR w h (Ideal.cos a) (Ideal.sin a)) (y + hullR w h (Ideal.sin a) (Ideal.cos a))
    (u + q * Ideal.ofBits FTy.f32 1203982336#32 - hullR w' h' (Ideal.cos a') (Ideal.sin a')) (v - hullR w' h' (Ideal.sin a') (Ideal.cos a'))
    (u + q * Ideal.ofBits FTy.f32 1203982336#32 + hullR w' h' (Ideal.cos a') (Ideal.sin a')) (v + hullR w' h' (Ideal.sin a') (Ideal.cos a'))

/-- The overlap of two boxes in the kernel, the classes apart. -/
def iouKer (x y w h a u v w' h' a' : EReal) : EReal :=
  iou (x - hullK w h (Ideal.cos a) (Ideal.sin a)) (y - hullK w h (Ideal.sin a) (Ideal.cos a))
    (x + hullK w h (Ideal.cos a) (Ideal.sin a)) (y + hullK w h (Ideal.sin a) (Ideal.cos a))
    (u - hullK w' h' (Ideal.cos a') (Ideal.sin a')) (v - hullK w' h' (Ideal.sin a') (Ideal.cos a'))
    (u + hullK w' h' (Ideal.cos a') (Ideal.sin a')) (v + hullK w' h' (Ideal.sin a') (Ideal.cos a'))

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem absf_coe (r : ℝ) : FloatOps.absf (F := Ideal) (φ := .f32) (r : EReal) = ((|r| : ℝ) : EReal) := by
  show max (r : EReal) (-(r : EReal)) = _
  rw [← EReal.coe_neg, ← coe_max]
  rfl

/-- Moving both rectangles along x changes nothing. -/
theorem iou_shift (x1 x2 u1 u2 s : ℝ) (y1 y2 v1 v2 : EReal) :
    iou ((x1 + s : ℝ)) y1 ((x2 + s : ℝ)) y2 ((u1 + s : ℝ)) v1 ((u2 + s : ℝ)) v2 = iou (x1 : ℝ) y1 (x2 : ℝ) y2 (u1 : ℝ) v1 (u2 : ℝ) v2 := by
  have e1 : (min ((x2 + s : ℝ) : EReal) ((u2 + s : ℝ) : EReal) - max ((x1 + s : ℝ) : EReal) ((u1 + s : ℝ) : EReal)) = min (x2 : EReal) u2 - max (x1 : EReal) u1 := by
    rw [← coe_min, ← coe_max, ← coe_min, ← coe_max, ← EReal.coe_sub, ← EReal.coe_sub, min_add_add_right, max_add_add_right, add_sub_add_right_eq_sub]
  have e2 : ∀ p q : ℝ, (((p + s : ℝ) : EReal) - ((q + s : ℝ) : EReal)) = (p : EReal) - q := by
    intro p q
    rw [← EReal.coe_sub, ← EReal.coe_sub, add_sub_add_right_eq_sub]
  unfold iou inter
  rw [e1, e2, e2]

/-- Rectangles apart along x have no overlap worth striking. -/
theorem iou_apart (x1 x2 u1 u2 : ℝ) (y1 y2 v1 v2 : EReal) (h : x2 ≤ u1 ∨ u2 ≤ x1) :
    ¬ Ideal.ofBits FTy.f32 1056964608#32 < iou x1 y1 x2 y2 u1 v1 u2 v2 := by
  have e : max 0 (min (x2 : EReal) u2 - max (x1 : EReal) u1) = 0 := by
    rw [← coe_min, ← coe_max, ← EReal.coe_sub]
    apply max_eq_left
    rw [← EReal.coe_zero, EReal.coe_le_coe_iff, sub_nonpos]
    rcases h with h | h
    · exact (min_le_left _ _).trans (h.trans (le_max_right _ _))
    · exact (min_le_right _ _).trans (h.trans (le_max_left _ _))
  have hi : inter x1 y1 x2 y2 u1 v1 u2 v2 = 0 := by unfold inter; rw [e, zero_mul]
  unfold iou
  rw [hi, half_val]
  unfold Ideal.div
  split
  · simp
  · rw [zero_mul, not_lt, ← EReal.coe_zero, EReal.coe_le_coe_iff]; norm_num

/-- A rectangle of unbounded area is never struck with another: the joint area is infinite, the quotient zero. -/
theorem iou_flat (x1 y1 x2 y2 u1 v1 u2 v2 : EReal)
    (h : ((x2 - x1) * (y2 - y1) = ⊤ ∨ (x2 - x1) * (y2 - y1) = ⊥) ∨ ((u2 - u1) * (v2 - v1) = ⊤ ∨ (u2 - u1) * (v2 - v1) = ⊥)) :
    ¬ Ideal.ofBits FTy.f32 1056964608#32 < iou x1 y1 x2 y2 u1 v1 u2 v2 := by
  have hn : 0 ≤ inter x1 y1 x2 y2 u1 v1 u2 v2 := mul_nonneg (le_max_left _ _) (le_max_left _ _)
  obtain ⟨e, he⟩ : ∃ e : ℝ, Ideal.ofBits FTy.f32 869711765#32 = (e : EReal) := by
    refine ⟨(Ideal.ofBits FTy.f32 869711765#32).toReal, (EReal.coe_toReal ?_ ?_).symm⟩ <;>
      simp [Ideal.ofBits, Ideal.ieee, -EReal.coe_mul, -EReal.coe_neg]
  have top_sub : ∀ t : EReal, 0 ≤ t → (⊤ : EReal) - t = ⊤ ∨ (⊤ : EReal) - t = ⊥ := by
    intro t ht
    induction t using EReal.rec with
    | bot => simp at ht
    | coe r => left; simp
    | top => right; rfl
  have key : ∀ p q t : EReal, 0 ≤ t → ((p = ⊤ ∨ p = ⊥) ∨ (q = ⊤ ∨ q = ⊥)) → p + q - t + e = ⊤ ∨ p + q - t + e = ⊥ := by
    have bots : ∀ t : EReal, (⊥ : EReal) - t + e = ⊥ := fun t => by simp [sub_eq_add_neg]
    have tops : ∀ t : EReal, 0 ≤ t → (⊤ : EReal) - t + e = ⊤ ∨ (⊤ : EReal) - t + e = ⊥ := by
      intro t ht
      rcases top_sub t ht with h | h <;> rw [h] <;> simp
    have sums : ∀ p q : EReal, (p = ⊤ ∨ p = ⊥) → p + q = ⊤ ∨ p + q = ⊥ := by
      rintro p q (rfl | rfl)
      · by_cases hq : q = ⊥
        · subst hq; right; simp
        · left; exact EReal.top_add_of_ne_bot hq
      · right; simp
    intro p q t ht h
    have hs : p + q = ⊤ ∨ p + q = ⊥ := by
      rcases h with h | h
      · exact sums p q h
      · rw [add_comm]; exact sums q p h
    rcases hs with h | h
    · rw [h]; exact tops t ht
    · rw [h]; right; exact bots t
  have hd := key _ _ (inter x1 y1 x2 y2 u1 v1 u2 v2) hn h
  unfold iou
  rw [he, half_val, not_lt]
  unfold Ideal.div
  rcases hd with h | h <;> rw [h] <;> simp <;> norm_num

/-- What is asked of a box: its place along x and its sides, nothing of the angle. -/
def Good (x w h : EReal) : Prop :=
  ∃ x' w' h' : ℝ, x = x' ∧ w = w' ∧ h = h' ∧ 0 ≤ w' ∧ 0 ≤ h' ∧ |x'| + (w' + h') / 2 ≤ 50000

/-- Sides from zero up and a bounded sum make everything in it finite. -/
theorem good_of_sum (x w h : EReal) (hw : 0 ≤ w) (hh : 0 ≤ h)
    (hs : FloatOps.absf (F := Ideal) (φ := .f32) x + ((1 / 2 : ℝ) : EReal) * (w + h) ≤ ((50000 : ℝ) : EReal)) : Good x w h := by
  have hp : (0 : ℝ) < 1 / 2 := by norm_num
  have habs : FloatOps.absf (F := Ideal) (φ := .f32) x = max x (-x) := rfl
  have ha : (0 : EReal) ≤ max x (-x) := by
    rcases le_total 0 x with h0 | h0
    · exact h0.trans (le_max_left _ _)
    · exact (EReal.neg_nonneg.mpr h0).trans (le_max_right _ _)
  have bounded : ∀ t : EReal, 0 ≤ t → t ≤ ((50000 : ℝ) : EReal) → t ≠ ⊤ := by
    rintro t _ h2 rfl
    simp at h2
  have hsum : (0 : EReal) ≤ ((1 / 2 : ℝ) : EReal) * (w + h) := mul_nonneg (EReal.coe_nonneg.mpr hp.le) (add_nonneg hw hh)
  rw [habs] at hs
  have h1 : max x (-x) ≠ ⊤ := bounded _ ha ((le_add_of_nonneg_right hsum).trans hs)
  have h2 : ((1 / 2 : ℝ) : EReal) * (w + h) ≠ ⊤ := bounded _ hsum ((le_add_of_nonneg_left ha).trans hs)
  have h3 : w + h ≠ ⊤ := fun e => h2 (by rw [e]; exact EReal.coe_mul_top_of_pos hp)
  have h4 : w ≠ ⊤ := fun e => h3 (top_le_iff.mp (e ▸ le_add_of_nonneg_right hh))
  have h5 : h ≠ ⊤ := fun e => h3 (top_le_iff.mp (e ▸ le_add_of_nonneg_left hw))
  induction x using EReal.rec with
  | bot => exact absurd (by simp) h1
  | top => exact absurd (by simp) h1
  | coe x =>
    induction w using EReal.rec with
    | bot => simp at hw
    | top => exact absurd rfl h4
    | coe w =>
      induction h using EReal.rec with
      | bot => simp at hh
      | top => exact absurd rfl h5
      | coe h =>
        refine ⟨x, w, h, rfl, rfl, rfl, EReal.coe_nonneg.mp hw, EReal.coe_nonneg.mp hh, ?_⟩
        rw [← habs, absf_coe, ← EReal.coe_add, ← EReal.coe_mul, ← EReal.coe_add, EReal.coe_le_coe_iff] at hs
        linarith

theorem hull_eq (w h c s : ℝ) (hw : 0 ≤ w) (hh : 0 ≤ h) : hullR w h c s = (((1/2) * (w * |c| + h * |s|) : ℝ) : EReal) ∧ hullK w h c s = (((1/2) * (w * |c| + h * |s|) : ℝ) : EReal) := by
  unfold hullR hullK
  rw [absf_coe, absf_coe, half_val, ← EReal.coe_mul, ← EReal.coe_mul, absf_coe, absf_coe]
  constructor
  · rw [← EReal.coe_add, ← EReal.coe_mul, abs_mul, abs_mul, abs_of_nonneg hw, abs_of_nonneg hh]
  · rw [← EReal.coe_mul, ← EReal.coe_mul, ← EReal.coe_add, ← EReal.coe_mul, mul_comm]

theorem hull_le (w h c s : ℝ) (hw : 0 ≤ w) (hh : 0 ≤ h) (hc : |c| ≤ 1) (hs : |s| ≤ 1) :
    (1/2) * (w * |c| + h * |s|) ≤ (w + h) / 2 := by
  have h1 : w * |c| ≤ w := mul_le_of_le_one_right hw hc
  have h2 : h * |s| ≤ h := mul_le_of_le_one_right hh hs
  linarith

/-- At an infinite angle sine and cosine are infinite, and the hull of a box is a point or everything. -/
theorem hull_far (w h : ℝ) (hw : 0 ≤ w) (hh : 0 ≤ h) :
    (hullR w h ⊥ ⊥ = ((0 : ℝ) : EReal) ∧ hullK w h ⊥ ⊥ = ((0 : ℝ) : EReal)) ∨ (hullR w h ⊥ ⊥ = ⊤ ∧ hullK w h ⊥ ⊥ = ⊤) := by
  have habs : ∀ t : EReal, FloatOps.absf (F := Ideal) (φ := .f32) t = max t (-t) := fun _ => rfl
  have hp : (0 : ℝ) < 1 / 2 := by norm_num
  unfold hullR hullK
  simp only [habs, half_val]
  rcases hw.eq_or_lt with rfl | hw <;> rcases hh.eq_or_lt with rfl | hh
  · left; simp
  · right; simp [EReal.coe_mul_bot_of_pos hh, EReal.coe_mul_top_of_pos hh, EReal.coe_mul_top_of_pos hp, EReal.top_mul_coe_of_pos hp, -one_div]
  · right; simp [EReal.coe_mul_bot_of_pos hw, EReal.coe_mul_top_of_pos hw, EReal.coe_mul_top_of_pos hp, EReal.top_mul_coe_of_pos hp, -one_div]
  · right; simp [EReal.coe_mul_bot_of_pos hw, EReal.coe_mul_top_of_pos hw, EReal.coe_mul_bot_of_pos hh, EReal.coe_mul_top_of_pos hh, EReal.coe_mul_top_of_pos hp, EReal.top_mul_coe_of_pos hp, -one_div]

/-- The hull of a box in range: bounded along x and written alike along y, or everything. -/
theorem hull_cases (w h : ℝ) (a : EReal) (hw : 0 ≤ w) (hh : 0 ≤ h) :
    (∃ A : ℝ, 0 ≤ A ∧ A ≤ (w + h) / 2 ∧ hullR w h (Ideal.cos a) (Ideal.sin a) = (A : EReal) ∧ hullK w h (Ideal.cos a) (Ideal.sin a) = (A : EReal) ∧
      hullR w h (Ideal.sin a) (Ideal.cos a) = hullK w h (Ideal.sin a) (Ideal.cos a)) ∨
    (hullR w h (Ideal.cos a) (Ideal.sin a) = ⊤ ∧ hullK w h (Ideal.cos a) (Ideal.sin a) = ⊤ ∧
      hullR w h (Ideal.sin a) (Ideal.cos a) = ⊤ ∧ hullK w h (Ideal.sin a) (Ideal.cos a) = ⊤) := by
  have far : ∀ a : EReal, Ideal.cos a = ⊥ → Ideal.sin a = ⊥ →
      (∃ A : ℝ, 0 ≤ A ∧ A ≤ (w + h) / 2 ∧ hullR w h (Ideal.cos a) (Ideal.sin a) = (A : EReal) ∧ hullK w h (Ideal.cos a) (Ideal.sin a) = (A : EReal) ∧
        hullR w h (Ideal.sin a) (Ideal.cos a) = hullK w h (Ideal.sin a) (Ideal.cos a)) ∨
      (hullR w h (Ideal.cos a) (Ideal.sin a) = ⊤ ∧ hullK w h (Ideal.cos a) (Ideal.sin a) = ⊤ ∧
        hullR w h (Ideal.sin a) (Ideal.cos a) = ⊤ ∧ hullK w h (Ideal.sin a) (Ideal.cos a) = ⊤) := by
    intro a hc hs
    rw [hc, hs]
    rcases hull_far w h hw hh with ⟨h1, h2⟩ | ⟨h1, h2⟩
    · exact .inl ⟨0, le_rfl, by positivity, h1, h2, h1.trans h2.symm⟩
    · exact .inr ⟨h1, h2, h1, h2⟩
  induction a using EReal.rec with
  | bot => exact far ⊥ rfl rfl
  | top => exact far ⊤ rfl rfl
  | coe a =>
    have c1 : Ideal.cos (a : EReal) = (Real.cos a : EReal) := rfl
    have s1 : Ideal.sin (a : EReal) = (Real.sin a : EReal) := rfl
    rw [c1, s1]
    exact .inl ⟨_, by positivity, hull_le w h _ _ hw hh (Real.abs_cos_le_one a) (Real.abs_sin_le_one a), (hull_eq w h _ _ hw hh).1,
      (hull_eq w h _ _ hw hh).2, (hull_eq w h _ _ hw hh).1.trans (hull_eq w h _ _ hw hh).2.symm⟩

/-- A rectangle reaching everywhere has unbounded area, whatever its middle along y. -/
theorem area_everywhere (x : ℝ) (y : EReal) :
    ((x : EReal) + ⊤ - (x - ⊤)) * ((y + ⊤) - (y - ⊤)) = ⊤ ∨ ((x : EReal) + ⊤ - (x - ⊤)) * ((y + ⊤) - (y - ⊤)) = ⊥ := by
  have e : ∀ r : ℝ, ((r : EReal) + ⊤ - (r - ⊤)) = ⊤ := by
    intro r
    rw [EReal.coe_add_top, sub_eq_add_neg (r : EReal), EReal.neg_top, EReal.add_bot]; rfl
  rw [e]
  induction y using EReal.rec with
  | coe r => left; rw [e]; rfl
  | top => left; rfl
  | bot => right; rfl

/-- The reference strikes exactly where the kernel does. -/
theorem strikes_iff (x y w h a u v w' h' a' : EReal) (p q : ℤ) (hd : Good x w h) (he : Good u w' h') :
    Ideal.ofBits FTy.f32 1056964608#32 < iouRef x y w h a ((p : ℝ) : EReal) u v w' h' a' ((q : ℝ) : EReal) ↔
    p = q ∧ Ideal.ofBits FTy.f32 1056964608#32 < iouKer x y w h a u v w' h' a' := by
  obtain ⟨x, w, h, rfl, rfl, rfl, hw, hh, hx⟩ := hd
  obtain ⟨u, t, g, rfl, rfl, rfl, ht, hg, hu⟩ := he
  unfold iouRef iouKer
  rw [strip_val, ← EReal.coe_mul, ← EReal.coe_mul, ← EReal.coe_add, ← EReal.coe_add]
  rcases hull_cases w h a hw hh with ⟨A, n1, b1, f1, f2, f3⟩ | ⟨f1, f2, f3, f4⟩
  swap
  · rw [f1, f2, f3, f4]
    exact ⟨fun hl => absurd hl (iou_flat _ _ _ _ _ _ _ _ (.inl (area_everywhere _ _))),
      fun hl => absurd hl.2 (iou_flat _ _ _ _ _ _ _ _ (.inl (area_everywhere _ _)))⟩
  rcases hull_cases t g a' ht hg with ⟨E, n2, b2, g1, g2, g3⟩ | ⟨g1, g2, g3, g4⟩
  swap
  · rw [g1, g2, g3, g4]
    exact ⟨fun hl => absurd hl (iou_flat _ _ _ _ _ _ _ _ (.inr (area_everywhere _ _))),
      fun hl => absurd hl.2 (iou_flat _ _ _ _ _ _ _ _ (.inr (area_everywhere _ _)))⟩
  rw [f1, f2, f3, g1, g2, g3]
  simp only [← EReal.coe_add, ← EReal.coe_sub]
  have x1 := neg_abs_le x
  have x2 := le_abs_self x
  have u1 := neg_abs_le u
  have u2 := le_abs_self u
  by_cases hpq : p = q
  · subst hpq
    have f1 : x + (p : ℝ) * 100000 - A = (x - A) + p * 100000 := by ring
    have f2 : x + (p : ℝ) * 100000 + A = (x + A) + p * 100000 := by ring
    have f3 : u + (p : ℝ) * 100000 - E = (u - E) + p * 100000 := by ring
    have f4 : u + (p : ℝ) * 100000 + E = (u + E) + p * 100000 := by ring
    rw [f1, f2, f3, f4, iou_shift]
    simp
  · simp only [hpq, false_and, iff_false]
    apply iou_apart
    rcases lt_or_gt_of_ne hpq with hlt | hgt
    · left
      have : (p : ℝ) + 1 ≤ q := by exact_mod_cast hlt
      linarith
    · right
      have : (q : ℝ) + 1 ≤ p := by exact_mod_cast hgt
      linarith

end Overlap

end
-- ==== Proof.KRead.lean ====
/-
  The kernel's block, read at an index over the extended reals: the overlap table, one trip of the greedy loop, the
  compaction by a one-hot product.
-/
module

public import proofs.«01_k».proof.Proof.KHost
public import proofs.«01_k».proof.Proof.Select
public import proofs.«01_k».proof.Proof.Spec
public import proofs.«01_k».proof.Proof.Overlap

@[expose] public section

set_option maxRecDepth 16384

noncomputable section

namespace Cert.KernelIdeal.Hand
open Cert.KernelIdeal Cert.KernelIdeal.Gen
open Idealize.ShloMosaic Idealize.ShloMosaic.TcCoe Idealize.ShloMosaic.Tactic

variable (X : FVec Ideal S16x1024x8 .f32) (b : Fin 16)

/-- One detection of image `b`. -/
def rowX (j : Fin 1024) : Fin 8 → EReal := fun ch => X (ix3 b j ch)

theorem col_apply (j : Fin 1024) (ch : Fin 8) : k0_pay2 (slab X b) (ix2 j ch) = rowX X b j ch := by
  pointwise [k0_pay2, slab]
  rfl

theorem lin_apply (j : Fin 1024) (ch : Fin 8) : k0_pay3 (slabT (packedT X) b) (ix2 ch j) = rowX X b j ch := by
  pointwise [k0_pay3, slabT, packedT]
  rfl

/-- The overlap the kernel computes of two detections. -/
def over (d e : Fin 8 → EReal) : EReal := Overlap.iouKer (d 0) (d 1) (d 2) (d 3) (d 4) (e 0) (e 1) (e 2) (e 3) (e 4)

/-- The overlap table. -/
theorem tab_apply (i : Fin 1024) (s : Fin 8) (l : Fin 128) : iouTab (slab X b) (slabT (packedT X) b) (ix3 i s l) =
    if rowX X b i 6 = rowX X b ⟨s.val * 128 + l.val, by omega⟩ 6 then over (rowX X b i) (rowX X b ⟨s.val * 128 + l.val, by omega⟩) else 0 := by
  pointwise [iouTab, k0_pay27, k0_pay13, k0_pay14, k0_pay15, k0_pay16, k0_pay17, k0_pay18, k0_pay19, k0_pay25, k0_pay26, k0_pay4, k0_pay5, k0_pay6, k0_pay7,
    k0_pay8, k0_pay9, k0_pay10, k0_pay11, k0_pay12, k0_pay20, k0_pay21, k0_pay22, k0_pay23, k0_pay24]
  simp only [col_apply, lin_apply, max_comm (_ - _) (0 : EReal)]
  rfl

/-! ### The greedy loop -/

/-- Where box `j` stands in the kernel's mask. -/
def tile (j : Fin 1024) : S8x128.Idx := ix2 ⟨j.val / 128, by omega⟩ ⟨j.val % 128, by omega⟩

/-- Entry `(i, j)` of a table. -/
def cell (M : FVec Ideal S1024x8x128 .f32) (i j : Fin 1024) : EReal := M (ix3 i ⟨j.val / 128, by omega⟩ ⟨j.val % 128, by omega⟩)

theorem word_tile (s l : ℕ) : IntOp.addi (IntOp.muli (BitVec.ofNat 32 s) 128#32) (BitVec.ofNat 32 l) = BitVec.ofNat 32 (s * 128 + l) := by
  show BitVec.ofNat 32 s * BitVec.ofNat 32 128 + BitVec.ofNat 32 l = _
  rw [← BitVec.ofNat_mul, ← BitVec.ofNat_add]

theorem word_iv (n : ℕ) : Scf.iv 0#32 1#32 n = BitVec.ofNat 32 n := by
  simp [Scf.iv]

open Classical in
/-- One visit, at a box. -/
theorem pay30_apply (n : Fin k0_t1_loop.trips) (N j : Fin 1024) (hN : n.val = N.val) (K : FVec Ideal S8x128 .f32) (R : FVec Ideal S1x8x128 .f32) :
    k0_pay30 n K R (tile j) =
      if (Ideal.ofBits FTy.f32 1056964608#32 < R (ix3 0 ⟨j.val / 128, by omega⟩ ⟨j.val % 128, by omega⟩) ∧ N.val < j.val) ∧ Ideal.ofBits FTy.f32 1056964608#32 < K (tile N)
      then 0 else K (tile j) := by
  unfold tile
  pointwise [k0_pay30]
  simp only [word_tile, word_iv, hN, Select.select_eq, Select.andi_one, Select.ofBool_one]
  have hsum : (∑ x : Fin 8, ∑ y : Fin 128, if IntOp.cmpi .eq (BitVec.ofNat 32 (x.val * 128 + y.val)) (BitVec.ofNat 32 N.val) = 1#1 then K (ix2 x y) else 0)
      = K (ix2 ⟨N.val / 128, by omega⟩ ⟨N.val % 128, by omega⟩) := by
    rw [Finset.sum_eq_single (⟨N.val / 128, by omega⟩ : Fin 8), Finset.sum_eq_single (⟨N.val % 128, by omega⟩ : Fin 128)]
    · rw [if_pos ((Select.eq_one _ _ (by omega) (by omega)).mpr (by dsimp only; omega))]
    · intro y _ hy
      rw [if_neg]
      rw [Select.eq_one _ _ (by dsimp only; omega) (by omega)]
      intro h
      apply hy
      apply Fin.ext
      dsimp only at h ⊢
      omega
    · intro h; exact absurd (Finset.mem_univ _) h
    · intro x _ hx
      apply Finset.sum_eq_zero
      intro y _
      rw [if_neg]
      rw [Select.eq_one _ _ (by omega) (by omega)]
      intro h
      apply hx
      apply Fin.ext
      dsimp only at h ⊢
      omega
    · intro h; exact absurd (Finset.mem_univ _) h
  have hj : j.val / 128 * 128 + j.val % 128 = j.val := by omega
  have hg := Select.sgt_one j.val N.val (by omega) (by omega)
  rw [hsum]
  simp only [hj, hg]

theorem half_lt_one : Ideal.ofBits FTy.f32 1056964608#32 < 1 := by
  rw [Overlap.half_val, ← EReal.coe_one, EReal.coe_lt_coe_iff]; norm_num

theorem not_half_lt_zero : ¬ Ideal.ofBits FTy.f32 1056964608#32 < 0 := by
  rw [Overlap.half_val, ← EReal.coe_zero, EReal.coe_lt_coe_iff]; norm_num

open Classical in
/-- Where the loop stands before visit `n`. -/
theorem keepAt_eq (M : FVec Ideal S1024x8x128 .f32) (n : ℕ) (hn : n ≤ 1024) (j : Fin 1024) :
    keepAt M n (tile j) = if Greedy.keep 1024 (fun _ => True) (fun i j => Ideal.ofBits FTy.f32 1056964608#32 < cell M i j) n j then 1 else 0 := by
  induction n generalizing j with
  | zero =>
    have h : keepAt M 0 (tile j) = 1 := by
      show k0_pay29 (tile j) = 1
      unfold tile
      pointwise [k0_pay29]
    rw [h]
    exact (if_pos trivial).symm
  | succ n ih =>
    have hs : keepAt M (n + 1) (tile j) = k0_pay30 (⟨n, hn⟩ : Fin k0_t1_loop.trips) (keepAt M n) (rowOf M ⟨n, hn⟩) (tile j) := by
      show (if h : n < 1024 then k0_pay30 (⟨n, h⟩ : Fin k0_t1_loop.trips) (keepAt M n) (rowOf M ⟨n, h⟩) else keepAt M n) (tile j) = _
      rw [dif_pos (show n < 1024 from hn)]
    rw [hs, pay30_apply ⟨n, hn⟩ ⟨n, hn⟩ j rfl, ih (by omega), ih (by omega)]
    have hr : rowOf M ⟨n, hn⟩ (ix3 0 ⟨j.val / 128, by omega⟩ ⟨j.val % 128, by omega⟩) = cell M ⟨n, hn⟩ j := rfl
    have hk := Greedy.keep_succ (valid := fun _ : Fin 1024 => True) (sup := fun i j => Ideal.ofBits FTy.f32 1056964608#32 < cell M i j) n hn j
    rw [hr]
    by_cases h1 : Greedy.keep 1024 (fun _ => True) (fun i j => Ideal.ofBits FTy.f32 1056964608#32 < cell M i j) n j
    · by_cases h2 : Greedy.keep 1024 (fun _ => True) (fun i j => Ideal.ofBits FTy.f32 1056964608#32 < cell M i j) n ⟨n, hn⟩
      · by_cases h3 : Ideal.ofBits FTy.f32 1056964608#32 < cell M ⟨n, hn⟩ j ∧ n < j.val
        · simp [hk, h1, h2, h3, half_lt_one]
        · have h3' : ¬ (True ∧ Ideal.ofBits FTy.f32 1056964608#32 < cell M ⟨n, hn⟩ j ∧ n < j.val) := fun x => h3 x.2
          rw [if_pos h2, if_pos h1, if_neg (fun x => h3 x.1), if_pos (hk.mpr ⟨h1, fun x => h3 x.2.2⟩)]
      · rw [if_neg h2, if_pos h1, if_neg (fun x => not_half_lt_zero x.2), if_pos (hk.mpr ⟨h1, fun x => h2 x.1⟩)]
    · rw [if_neg h1, if_neg (fun x => h1 (hk.mp x).1), ite_self]

/-! ### The compaction -/

theorem bit_val (c : BitVec 1) : FloatOps.sitofp (F := Ideal) .f32 (BitVec.setWidth 32 c) = if c = 1#1 then 1 else 0 := by
  have h : c = 0#1 ∨ c = 1#1 := by revert c; decide
  rcases h with h | h <;> subst h
  · show (((BitVec.setWidth 32 0#1).toInt : ℝ) : EReal) = _
    simp
  · show (((BitVec.setWidth 32 1#1).toInt : ℝ) : EReal) = _
    simp

theorem word_val (n : ℕ) (hn : n < 2147483648) : FloatOps.sitofp (F := Ideal) .f32 (BitVec.ofNat 32 n) = ((n : ℝ) : EReal) := by
  show (((BitVec.ofNat 32 n).toInt : ℝ) : EReal) = _
  rw [Select.toInt_small n hn]
  norm_num

open Classical in
/-- The number of places at which a property holds, summed place by place. -/
theorem sum_count (P : ℕ → Prop) (n x : ℕ) (hx : x < n) :
    (∑ y : Fin n, (if P y.val ∧ y.val ≤ x then (1 : EReal) else 0)) = ((Nat.count P (x + 1) : ℝ) : EReal) := by
  have h1 : (∑ y : Fin n, (if P y.val ∧ y.val ≤ x then (1 : EReal) else 0)) = (((∑ y : Fin n, (if P y.val ∧ y.val ≤ x then (1 : ℕ) else 0) : ℕ) : ℝ) : EReal) := by
    rw [Finset.sum_boole, ← Finset.card_filter, EReal.coe_coe_eq_natCast]
  rw [h1]
  congr 2
  rw [Fin.sum_univ_eq_sum_range (fun y => if P y ∧ y ≤ x then 1 else 0) n, Nat.count_eq_card_filter_range, Finset.card_filter]
  have : Finset.range (x + 1) ⊆ Finset.range n := Finset.range_subset_range.mpr (by omega)
  rw [← Finset.sum_subset this]
  · apply Finset.sum_congr rfl
    intro y hy
    have : y ≤ x := by have := Finset.mem_range.mp hy; omega
    simp [this]
  · intro y _ hy
    have : ¬ y ≤ x := fun h => hy (Finset.mem_range.mpr (by omega))
    simp [this]

/-- Box `j` survives in the kernel. -/
def Lives (K : FVec Ideal S8x128 .f32) (j : ℕ) : Prop :=
  ∃ h : j < 1024, K (tile ⟨j, h⟩) = 1 ∧ Ideal.ofBits FTy.f32 3454954280#32 < rowX X b ⟨j, h⟩ 5

open Classical in
/-- The compacted rows. -/
theorem pay31_apply (K : FVec Ideal S8x128 .f32) (hK : ∀ j, K (tile j) = 1 ∨ K (tile j) = 0) (r : Fin 384) (ch : Fin 8) :
    k0_pay31 (k0_pay2 (slab X b)) (k0_pay3 (slabT (packedT X) b)) K (ix2 r ch) =
      ∑ j : Fin 1024, (if Greedy.IsNth (Lives X b K) r j then 1 else 0) * (rowX X b j ch + if ch.val = 6 then 1 else 0) := by
  pointwise [k0_pay31]
  simp only [col_apply, lin_apply]
  simp only [bit_val, Select.andi_one, Select.ofBool_one]
  apply Finset.sum_congr rfl
  intro x _
  have hval : (if h : ch.val < 6 then rowX X b x ch else if h : ch.val - 6 < 1 then rowX X b x ⟨6 + (ch.val - 6), by omega⟩ + 1
      else rowX X b x ⟨7 + (ch.val - 6 - 1), by omega⟩) = rowX X b x ch + if ch.val = 6 then 1 else 0 := by
    by_cases h1 : ch.val < 6
    · rw [dif_pos h1, if_neg (by omega), add_zero]
    · rw [dif_neg h1]
      by_cases h2 : ch.val - 6 < 1
      · rw [dif_pos h2, if_pos (by omega)]
        congr 2
        apply Fin.ext
        dsimp only
        omega
      · rw [dif_neg h2, if_neg (by omega), add_zero]
        congr 1
        apply Fin.ext
        dsimp only
        omega
  rw [hval]
  congr 1
  have hlive : ∀ y : Fin 1024, K (ix2 ⟨y.val / 128, by omega⟩ ⟨y.val % 128, by omega⟩) * (if Ideal.ofBits FTy.f32 3454954280#32 < rowX X b y 5 then (1 : EReal) else 0)
      = if Lives X b K y then 1 else 0 := by
    intro y
    show K (tile y) * _ = _
    by_cases h : Ideal.ofBits FTy.f32 3454954280#32 < rowX X b y 5
    · rw [if_pos h, mul_one]
      rcases hK y with hy | hy
      · rw [if_pos ⟨y.isLt, hy, h⟩, hy]
      · rw [if_neg (fun ⟨_, h1, _⟩ => by rw [hy] at h1; exact zero_ne_one h1), hy]
    · rw [if_neg h, mul_zero, if_neg (fun ⟨_, _, h2⟩ => h h2)]
  have hsum : (∑ y : Fin 1024, K (ix2 ⟨y.val / 128, by omega⟩ ⟨y.val % 128, by omega⟩) * (if Ideal.ofBits FTy.f32 3454954280#32 < rowX X b y 5 then (1 : EReal) else 0)
        * (if IntOp.cmpi .sle (BitVec.ofNat 32 y.val) (BitVec.ofNat 32 x.val) = 1#1 then (1 : EReal) else 0))
      = ((Nat.count (Lives X b K) (x.val + 1) : ℝ) : EReal) := by
    rw [← sum_count (Lives X b K) 1024 x.val x.isLt]
    apply Finset.sum_congr rfl
    intro y _
    have hle := Select.sle_one y.val x.val (by omega) (by omega)
    rw [hlive y]
    simp only [hle]
    by_cases h1 : Lives X b K y <;> by_cases h2 : y.val ≤ x.val <;> simp [h1, h2]
  rw [hsum, word_val _ (by omega)]
  rw [hlive x]
  have hiff : ((((r.val : ℝ) : EReal) = ((Nat.count (Lives X b K) (x.val + 1) : ℝ) : EReal) - 1) ∧
      Ideal.ofBits FTy.f32 1056964608#32 < (if Lives X b K x then (1 : EReal) else 0)) ↔ Greedy.IsNth (Lives X b K) r x := by
    by_cases h : Lives X b K x
    · rw [if_pos h, Nat.count_succ, if_pos h, ← EReal.coe_one, ← EReal.coe_sub, EReal.coe_eq_coe_iff, EReal.coe_one]
      push_cast
      rw [add_sub_cancel_right]
      constructor
      · rintro ⟨h1, _⟩
        exact ⟨h, by exact_mod_cast h1.symm⟩
      · rintro ⟨_, h1⟩
        exact ⟨by exact_mod_cast h1.symm, half_lt_one⟩
    · rw [if_neg h]
      constructor
      · rintro ⟨_, h1⟩; exact absurd h1 not_half_lt_zero
      · rintro ⟨h1, _⟩; exact absurd h1 h
  simp only [hiff]

open Classical in
/-- One row of the block the kernel writes. -/
theorem outBlk_apply (x0 : Vec Ideal S1x1024x8 .f32) (x1 : Vec Ideal S1x8x1024 .f32) (r : Fin 384) (ch : Fin 8) :
    outBlk x0 x1 (ix3 0 r ch) =
      k0_pay31 (F := Ideal) (k0_pay2 x0) (k0_pay3 x1) (keepAt (iouTab x0 x1) 1024) (ix2 r ch) - (if ch.val = 6 then (1 : EReal) else 0) := by
  pointwise [outBlk, k0_pay1, k0_pay32]
  rw [Select.select_eq]
  have h := Select.eq_one ch.val 6 (by omega) (by omega)
  simp only [h]
  by_cases h6 : ch.val = 6
  · simp only [if_pos h6]
  · simp only [if_neg h6, sub_zero]

section Packed

variable (v : FVec Ideal S16x1000 .f32) (B : FVec Ideal S16x1000x5 .f32) (L : IVec S16x1000 32)

/-- The table's first channels are the boxes. -/
theorem packed_box (j : Fin 1000) (ch : Fin 5) : rowX (packed v B L) b (j.castLE (by omega)) (ch.castLE (by omega)) = B (ix3 b j ch) := by
  unfold rowX
  pointwise [packed]
  exact (dif_pos (show _ from ch.isLt)).trans (dif_pos ⟨j.isLt, ch.isLt⟩)

/-- The next one the scores. -/
theorem packed_score (j : Fin 1024) : rowX (packed v B L) b j 5 = if h : j.val < 1000 then v (ix2 b ⟨j, h⟩) else Ideal.ofBits .f32 3463342888#32 := by
  unfold rowX
  pointwise [packed]

/-- The next one the labels. -/
theorem packed_label (j : Fin 1000) : rowX (packed v B L) b (j.castLE (by omega)) 6 = (((L (ix2 b j)).toInt : ℝ) : EReal) := by
  unfold rowX
  pointwise [packed]
  exact congrArg (FloatOps.sitofp (F := Ideal) .f32) (dif_pos (show _ from j.isLt))

/-! ### The results -/

/-- The mask after the loop, of image `b`. -/
def lastKeep : FVec Ideal S8x128 .f32 := keepAt (iouTab (slab X b) (slabT (packedT X) b)) 1024

theorem lastKeep_bit (j : Fin 1024) : lastKeep X b (tile j) = 1 ∨ lastKeep X b (tile j) = 0 := by
  unfold lastKeep
  rw [keepAt_eq _ 1024 le_rfl]
  by_cases h : Greedy.keep 1024 (fun _ => True) (fun i j => Ideal.ofBits FTy.f32 1056964608#32 < cell (iouTab (slab X b) (slabT (packedT X) b)) i j) 1024 j
  · left; exact if_pos h
  · right; exact if_neg h

open Classical in
/-- A row of the array the kernel writes. -/
theorem outArr_apply (r : Fin 384) (ch : Fin 8) :
    (∃ j : Fin 1024, Greedy.IsNth (Lives X b (lastKeep X b)) r j ∧
      outArr X (ix3 b r ch) = rowX X b j ch + (if ch.val = 6 then 1 else 0) - (if ch.val = 6 then 1 else 0)) ∨
    ((∀ j < 1024, ¬ Greedy.IsNth (Lives X b (lastKeep X b)) r j) ∧ outArr X (ix3 b r ch) = 0 - (if ch.val = 6 then 1 else 0)) := by
  have h : outArr X (ix3 b r ch) = outBlk (slab X b) (slabT (packedT X) b) (ix3 0 r ch) := rfl
  rw [h, outBlk_apply]
  have h2 : k0_pay31 (F := Ideal) (k0_pay2 (slab X b)) (k0_pay3 (slabT (packedT X) b)) (keepAt (iouTab (slab X b) (slabT (packedT X) b)) 1024) (ix2 r ch) =
      ∑ j : Fin 1024, (if Greedy.IsNth (Lives X b (lastKeep X b)) r j then 1 else 0) * (rowX X b j ch + if ch.val = 6 then 1 else 0) :=
    pay31_apply X b (lastKeep X b) (lastKeep_bit X b) r ch
  rw [h2]
  by_cases hj : ∃ j : Fin 1024, Greedy.IsNth (Lives X b (lastKeep X b)) r j
  · left
    obtain ⟨j, hj⟩ := hj
    refine ⟨j, hj, ?_⟩
    congr 1
    rw [Finset.sum_eq_single j]
    · rw [if_pos hj, one_mul]
    · intro i _ hi
      rw [if_neg, zero_mul]
      intro hn
      exact hi (Fin.ext (hn.unique hj))
    · intro h; exact absurd (Finset.mem_univ _) h
  · right
    refine ⟨fun j hlt hn => hj ⟨⟨j, hlt⟩, hn⟩, ?_⟩
    congr 1
    apply Finset.sum_eq_zero
    intro i _
    rw [if_neg, zero_mul]
    intro hn
    exact hj ⟨i, hn⟩

/-- A label survives the trip through the floats. -/
theorem label_back (l : BitVec 32) : FloatOps.fptosi (F := Ideal) (φ := .f32) 32 (Ideal.liftRound Ideal.roundHalfEven (((l.toInt : ℝ) : EReal) + 1 - 1)) = l := by
  have h1 : ((l.toInt : ℝ) : EReal) + 1 - 1 = ((l.toInt : ℝ) : EReal) := by
    rw [← EReal.coe_one, ← EReal.coe_add, ← EReal.coe_sub, add_sub_cancel_right]
  rw [h1]
  have h2 : Ideal.roundHalfEven (l.toInt : ℝ) = l.toInt := by
    simp [Ideal.roundHalfEven]
  show Ideal.fptosi 32 (((Ideal.roundHalfEven (l.toInt : ℝ) : ℤ) : ℝ) : EReal) = l
  rw [h2]
  have hlo := BitVec.le_toInt l
  have hhi := BitVec.toInt_lt (x := l)
  have h3 : Ideal.fptosi 32 ((l.toInt : ℝ) : EReal) = BitVec.ofInt 32 (max (-2147483648) (min 2147483647 l.toInt)) := by simp [Ideal.fptosi]
  rw [h3, min_eq_right (by omega), max_eq_right (by omega), BitVec.ofInt_toInt]

theorem label_none : FloatOps.fptosi (F := Ideal) (φ := .f32) 32 (Ideal.liftRound Ideal.roundHalfEven ((0 : EReal) - 1)) = 4294967295#32 := by
  have h := label_back 4294967295#32
  have e : (4294967295#32).toInt = -1 := by decide
  have e' : ((((4294967295#32).toInt : ℤ) : ℝ) : EReal) + 1 = 0 := by
    rw [e, ← EReal.coe_one, ← EReal.coe_add]
    norm_num
  rw [e'] at h
  exact h

/-- The results at `(b, r)`: of the `r`-th survivor, or nothing. -/
theorem results (r : Fin 300) :
    (∃ j : Fin 1000, Greedy.IsNth (Lives (packed v B L) b (lastKeep (packed v B L) b)) r j ∧ out1 (outArr (packed v B L)) (ix2 b r) = v (ix2 b j) ∧
      (∀ ch, out0 (outArr (packed v B L)) (ix3 b r ch) = B (ix3 b j ch)) ∧ out2 (outArr (packed v B L)) (ix2 b r) = L (ix2 b j)) ∨
    ((∀ j < 1000, ¬ Greedy.IsNth (Lives (packed v B L) b (lastKeep (packed v B L) b)) r j) ∧ out1 (outArr (packed v B L)) (ix2 b r) = 0 ∧
      (∀ ch, out0 (outArr (packed v B L)) (ix3 b r ch) = 0) ∧ out2 (outArr (packed v B L)) (ix2 b r) = 4294967295#32) := by
  have h1 : out1 (outArr (packed v B L)) (ix2 b r) = outArr (packed v B L) (ix3 b (r.castLE (by omega)) 5) := by
    generalize outArr (packed v B L) = Y
    pointwise [out1]
    rfl
  have h0 : ∀ ch, out0 (outArr (packed v B L)) (ix3 b r ch) = outArr (packed v B L) (ix3 b (r.castLE (by omega)) (ch.castLE (by omega))) := by
    intro ch
    generalize outArr (packed v B L) = Y
    pointwise [out0]
    rfl
  have h2 : out2 (outArr (packed v B L)) (ix2 b r) =
      FloatOps.fptosi (F := Ideal) (φ := .f32) 32 (Ideal.liftRound Ideal.roundHalfEven (outArr (packed v B L) (ix3 b (r.castLE (by omega)) 6))) := by
    generalize outArr (packed v B L) = Y
    pointwise [out2]
    rfl
  have hlt : ∀ j : Fin 1024, Lives (packed v B L) b (lastKeep (packed v B L) b) j → j.val < 1000 := by
    rintro j ⟨_, _, h⟩
    by_contra hn
    have e := packed_score b v B L j
    rw [dif_neg hn] at e
    rw [show (⟨j.val, j.isLt⟩ : Fin 1024) = j from rfl, e] at h
    exact absurd h (not_lt.mpr Overlap.out_lt_play.le)
  rw [h1, h2]
  simp only [h0]
  have hrow := fun ch : Fin 8 => outArr_apply (packed v B L) b (r.castLE (by omega : 300 ≤ 384)) ch
  by_cases hex : ∃ j : Fin 1024, Greedy.IsNth (Lives (packed v B L) b (lastKeep (packed v B L) b)) r j
  · left
    obtain ⟨j, hj⟩ := hex
    have hj' : j.val < 1000 := hlt j hj.1
    have hval : ∀ ch, outArr (packed v B L) (ix3 b (r.castLE (by omega)) ch) =
        rowX (packed v B L) b j ch + (if ch.val = 6 then 1 else 0) - (if ch.val = 6 then 1 else 0) := by
      intro ch
      rcases hrow ch with ⟨i, hi, e⟩ | ⟨hn, _⟩
      · rw [e, Fin.ext (hi.unique hj)]
      · exact absurd hj (hn j j.isLt)
    refine ⟨⟨j.val, hj'⟩, hj, ?_, ?_, ?_⟩
    · rw [hval, packed_score, dif_pos hj']
      simp
    · intro ch
      have hne : ¬ (ch.castLE (by omega : 5 ≤ 8)).val = 6 := by have := ch.isLt; simp only [Fin.val_castLE]; omega
      rw [hval, if_neg hne, add_zero, sub_zero]
      exact packed_box b v B L ⟨j.val, hj'⟩ ch
    · have e6 : (6 : Fin 8).val = 6 := rfl
      have hl : rowX (packed v B L) b j 6 = _ := packed_label b v B L ⟨j.val, hj'⟩
      rw [hval, if_pos e6, hl, label_back]
  · right
    have hval : ∀ ch, outArr (packed v B L) (ix3 b (r.castLE (by omega)) ch) = 0 - (if ch.val = 6 then 1 else 0) := by
      intro ch
      rcases hrow ch with ⟨i, hi, e⟩ | ⟨_, e⟩
      · exact absurd ⟨i, hi⟩ hex
      · exact e
    refine ⟨fun j hj hn => hex ⟨⟨j, by omega⟩, hn⟩, ?_, ?_, ?_⟩
    · rw [hval]
      simp
    · intro ch
      have hne : ¬ (ch.castLE (by omega : 5 ≤ 8)).val = 6 := by have := ch.isLt; simp only [Fin.val_castLE]; omega
      rw [hval, if_neg hne, sub_zero]
    · have e6 : (6 : Fin 8).val = 6 := rfl
      rw [hval, if_pos e6, label_none]

end Packed

end Cert.KernelIdeal.Hand

end
-- ==== Proof.RefRun.lean ====
/-
  The reference's run: every execution ends with the three results as named functions of the arguments and of the mask
  the loop leaves, which is followed trip by trip.
-/
module

public import proofs.«01_k».proof.Proof.RefValue

@[expose] public section

set_option maxRecDepth 16384

noncomputable section

namespace Cert.ReferenceIdeal.Hand

open Idealize.ShloMosaic Idealize.ShloMosaic.TcCoe Idealize.ShloMosaic.StableHlo
open Idealize.SL.Sem Cert.ReferenceIdeal Cert.ReferenceIdeal.Gen Cert.ReferenceIdeal.Value

variable {F : FTy → Type} [FloatOps F]

section Reads

variable (V : Valuation τ sig (Elt F))

theorem pre_values : afterL preI V (Proc.devRef .tc main_values) = valsOf (V (Proc.devRef .tc main_arg1)) := by
  simp only [preI, postI, afterL_cons, afterL_nil]
  rw [after_of_writes_sub hostOps0_9 _ hostOps0_9_writes (by decide : main_values ∉ hostOps0_9_W), after_of_writes_sub hostOps0_8 _ hostOps0_8_writes (by decide : main_values ∉ hostOps0_8_W), after_of_writes_sub hostOps0_7 _ hostOps0_7_writes (by decide : main_values ∉ hostOps0_7_W), after_of_writes_sub hostOps0_6 _ hostOps0_6_writes (by decide : main_values ∉ hostOps0_6_W), after_of_writes_sub hostOps0_5 _ hostOps0_5_writes (by decide : main_values ∉ hostOps0_5_W), after_of_writes_sub hostOps0_4 _ hostOps0_4_writes (by decide : main_values ∉ hostOps0_4_W), after_of_writes_sub hostOps0_3 _ hostOps0_3_writes (by decide : main_values ∉ hostOps0_3_W),
    read_vals]

theorem pre_v4 : afterL preI V (Proc.devRef .tc main_v4) = takeBoxes (V (Proc.devRef .tc main_arg0)) (idxOf (V (Proc.devRef .tc main_arg1))) := by
  simp only [preI, postI, afterL_cons, afterL_nil]
  rw [after_of_writes_sub hostOps0_9 _ hostOps0_9_writes (by decide : main_v4 ∉ hostOps0_9_W), after_of_writes_sub hostOps0_8 _ hostOps0_8_writes (by decide : main_v4 ∉ hostOps0_8_W), after_of_writes_sub hostOps0_7 _ hostOps0_7_writes (by decide : main_v4 ∉ hostOps0_7_W), after_of_writes_sub hostOps0_6 _ hostOps0_6_writes (by decide : main_v4 ∉ hostOps0_6_W), after_of_writes_sub hostOps0_5 _ hostOps0_5_writes (by decide : main_v4 ∉ hostOps0_5_W), after_of_writes_sub hostOps0_4 _ hostOps0_4_writes (by decide : main_v4 ∉ hostOps0_4_W),
    read_v4,
    after_of_writes_sub hostOps0_2 _ hostOps0_2_writes (by decide : main_arg0 ∉ hostOps0_2_W), after_of_writes_sub hostOps0_1 _ hostOps0_1_writes (by decide : main_arg0 ∉ hostOps0_1_W), after_of_writes_sub hostOps0 _ hostOps0_writes (by decide : main_arg0 ∉ hostOps0_W),
    read_v3,
    takeBoxes]

theorem pre_v5 : afterL preI V (Proc.devRef .tc main_v5) = takeLabels (V (Proc.devRef .tc main_arg2)) (idxOf (V (Proc.devRef .tc main_arg1))) := by
  simp only [preI, postI, afterL_cons, afterL_nil]
  rw [after_of_writes_sub hostOps0_9 _ hostOps0_9_writes (by decide : main_v5 ∉ hostOps0_9_W), after_of_writes_sub hostOps0_8 _ hostOps0_8_writes (by decide : main_v5 ∉ hostOps0_8_W), after_of_writes_sub hostOps0_7 _ hostOps0_7_writes (by decide : main_v5 ∉ hostOps0_7_W), after_of_writes_sub hostOps0_6 _ hostOps0_6_writes (by decide : main_v5 ∉ hostOps0_6_W), after_of_writes_sub hostOps0_5 _ hostOps0_5_writes (by decide : main_v5 ∉ hostOps0_5_W),
    read_v5,
    after_of_writes_sub hostOps0_3 _ hostOps0_3_writes (by decide : main_arg2 ∉ hostOps0_3_W), after_of_writes_sub hostOps0_2 _ hostOps0_2_writes (by decide : main_arg2 ∉ hostOps0_2_W), after_of_writes_sub hostOps0_1 _ hostOps0_1_writes (by decide : main_arg2 ∉ hostOps0_1_W), after_of_writes_sub hostOps0 _ hostOps0_writes (by decide : main_arg2 ∉ hostOps0_W),
    after_of_writes_sub hostOps0_3 _ hostOps0_3_writes (by decide : main_indices ∉ hostOps0_3_W),
    read_idx]

theorem pre_v7 : afterL preI V (Proc.devRef .tc main_v7) = validOf (valsOf (V (Proc.devRef .tc main_arg1))) := by
  simp only [preI, postI, afterL_cons, afterL_nil]
  rw [after_of_writes_sub hostOps0_9 _ hostOps0_9_writes (by decide : main_v7 ∉ hostOps0_9_W), after_of_writes_sub hostOps0_8 _ hostOps0_8_writes (by decide : main_v7 ∉ hostOps0_8_W), after_of_writes_sub hostOps0_7 _ hostOps0_7_writes (by decide : main_v7 ∉ hostOps0_7_W), after_of_writes_sub hostOps0_6 _ hostOps0_6_writes (by decide : main_v7 ∉ hostOps0_6_W),
    read_v7,
    after_of_writes_sub hostOps0_4 _ hostOps0_4_writes (by decide : main_values ∉ hostOps0_4_W), after_of_writes_sub hostOps0_3 _ hostOps0_3_writes (by decide : main_values ∉ hostOps0_3_W),
    read_vals]

theorem mid_v4 : after hostOps0_4 (after hostOps0_3 (after hostOps0_2 (after hostOps0_1 (after hostOps0 V)))) (Proc.devRef .tc main_v4) = takeBoxes (V (Proc.devRef .tc main_arg0)) (idxOf (V (Proc.devRef .tc main_arg1))) := by
  rw [after_of_writes_sub hostOps0_4 _ hostOps0_4_writes (by decide : main_v4 ∉ hostOps0_4_W),
    read_v4,
    after_of_writes_sub hostOps0_2 _ hostOps0_2_writes (by decide : main_arg0 ∉ hostOps0_2_W), after_of_writes_sub hostOps0_1 _ hostOps0_1_writes (by decide : main_arg0 ∉ hostOps0_1_W), after_of_writes_sub hostOps0 _ hostOps0_writes (by decide : main_arg0 ∉ hostOps0_W),
    read_v3,
    takeBoxes]

theorem mid_v5 : after hostOps0_4 (after hostOps0_3 (after hostOps0_2 (after hostOps0_1 (after hostOps0 V)))) (Proc.devRef .tc main_v5) = takeLabels (V (Proc.devRef .tc main_arg2)) (idxOf (V (Proc.devRef .tc main_arg1))) := by
  rw [read_v5,
    after_of_writes_sub hostOps0_3 _ hostOps0_3_writes (by decide : main_arg2 ∉ hostOps0_3_W), after_of_writes_sub hostOps0_2 _ hostOps0_2_writes (by decide : main_arg2 ∉ hostOps0_2_W), after_of_writes_sub hostOps0_1 _ hostOps0_1_writes (by decide : main_arg2 ∉ hostOps0_1_W), after_of_writes_sub hostOps0 _ hostOps0_writes (by decide : main_arg2 ∉ hostOps0_W),
    after_of_writes_sub hostOps0_3 _ hostOps0_3_writes (by decide : main_indices ∉ hostOps0_3_W),
    read_idx]

theorem pre_iou : afterL preI V (Proc.devRef .tc main_v84_1) = iouR (takeBoxes (V (Proc.devRef .tc main_arg0)) (idxOf (V (Proc.devRef .tc main_arg1)))) (takeLabels (V (Proc.devRef .tc main_arg2)) (idxOf (V (Proc.devRef .tc main_arg1)))) := by
  simp only [preI, postI, afterL_cons, afterL_nil]
  rw [read_v81,
    after_of_writes_sub hostOps0_8 _ hostOps0_8_writes (by decide : main_v66 ∉ hostOps0_8_W), after_of_writes_sub hostOps0_7 _ hostOps0_7_writes (by decide : main_v66 ∉ hostOps0_7_W),
    read_v66,
    read_v68,
    after_of_writes_sub hostOps0_6 _ hostOps0_6_writes (by decide : main_v64 ∉ hostOps0_6_W),
    read_y2s,
    after_of_writes_sub hostOps0_6 _ hostOps0_6_writes (by decide : main_v54 ∉ hostOps0_6_W),
    read_y1s,
    read_c5,
    read_xs,
    after_of_writes_sub hostOps0_8 _ hostOps0_8_writes (by decide : main_v40 ∉ hostOps0_8_W), after_of_writes_sub hostOps0_7 _ hostOps0_7_writes (by decide : main_v40 ∉ hostOps0_7_W), after_of_writes_sub hostOps0_6 _ hostOps0_6_writes (by decide : main_v40 ∉ hostOps0_6_W),
    read_x1,
    after_of_writes_sub hostOps0_8 _ hostOps0_8_writes (by decide : main_v41 ∉ hostOps0_8_W), after_of_writes_sub hostOps0_7 _ hostOps0_7_writes (by decide : main_v41 ∉ hostOps0_7_W), after_of_writes_sub hostOps0_6 _ hostOps0_6_writes (by decide : main_v41 ∉ hostOps0_6_W),
    read_y1,
    after_of_writes_sub hostOps0_8 _ hostOps0_8_writes (by decide : main_v43 ∉ hostOps0_8_W), after_of_writes_sub hostOps0_7 _ hostOps0_7_writes (by decide : main_v43 ∉ hostOps0_7_W), after_of_writes_sub hostOps0_6 _ hostOps0_6_writes (by decide : main_v43 ∉ hostOps0_6_W),
    read_x2,
    after_of_writes_sub hostOps0_8 _ hostOps0_8_writes (by decide : main_v44 ∉ hostOps0_8_W), after_of_writes_sub hostOps0_7 _ hostOps0_7_writes (by decide : main_v44 ∉ hostOps0_7_W), after_of_writes_sub hostOps0_6 _ hostOps0_6_writes (by decide : main_v44 ∉ hostOps0_6_W),
    read_y2,
    mid_v4,
    mid_v5]
  rfl

theorem pre_valid : afterL preI V (Proc.devRef .tc main_v84_0) = validOf (valsOf (V (Proc.devRef .tc main_arg1))) := by
  simp only [preI, postI, afterL_cons, afterL_nil]
  rw [read_840,
    after_of_writes_sub hostOps0_8 _ hostOps0_8_writes (by decide : main_v7 ∉ hostOps0_8_W), after_of_writes_sub hostOps0_7 _ hostOps0_7_writes (by decide : main_v7 ∉ hostOps0_7_W), after_of_writes_sub hostOps0_6 _ hostOps0_6_writes (by decide : main_v7 ∉ hostOps0_6_W),
    read_v7,
    after_of_writes_sub hostOps0_4 _ hostOps0_4_writes (by decide : main_values ∉ hostOps0_4_W), after_of_writes_sub hostOps0_3 _ hostOps0_3_writes (by decide : main_values ∉ hostOps0_3_W),
    read_vals]

theorem pre_iota : afterL preI V (Proc.devRef .tc main_v84_2) = iotaInDim S1000 32 0 := by
  simp only [preI, postI, afterL_cons, afterL_nil]
  rw [read_842]

theorem pre_c4 : afterL preI V (Proc.devRef .tc main_v84_4) = constantI S_ 32 0#32 := by
  simp only [preI, postI, afterL_cons, afterL_nil]
  rw [read_844]

theorem pre_keep0 : afterL preI V (Proc.devRef .tc main_v84_5) = broadcastInDim S16x1000 ![] bcast_S_S16x1000 (constantI S_ 1 1#1) := by
  simp only [preI, postI, afterL_cons, afterL_nil]
  rw [read_845]

theorem post_v92 : afterL postI V (Proc.devRef .tc main_v92) = res0 (keptScores (V (Proc.devRef .tc main_v84_5)) (V (Proc.devRef .tc main_v7)) (V (Proc.devRef .tc main_values))) (V (Proc.devRef .tc main_v4)) := by
  simp only [preI, postI, afterL_cons, afterL_nil]
  rw [after_of_writes_sub hostOps0_20 _ hostOps0_20_writes (by decide : main_v92 ∉ hostOps0_20_W), after_of_writes_sub hostOps0_19 _ hostOps0_19_writes (by decide : main_v92 ∉ hostOps0_19_W), after_of_writes_sub hostOps0_18 _ hostOps0_18_writes (by decide : main_v92 ∉ hostOps0_18_W), after_of_writes_sub hostOps0_17 _ hostOps0_17_writes (by decide : main_v92 ∉ hostOps0_17_W), after_of_writes_sub hostOps0_16 _ hostOps0_16_writes (by decide : main_v92 ∉ hostOps0_16_W),
    read_v92,
    after_of_writes_sub hostOps0_13 _ hostOps0_13_writes (by decide : main_v89 ∉ hostOps0_13_W),
    read_v89,
    read_v91,
    after_of_writes_sub hostOps0_12 _ hostOps0_12_writes (by decide : main_v4 ∉ hostOps0_12_W), after_of_writes_sub hostOps0_11 _ hostOps0_11_writes (by decide : main_v4 ∉ hostOps0_11_W), after_of_writes_sub hostOps0_10 _ hostOps0_10_writes (by decide : main_v4 ∉ hostOps0_10_W),
    read_v90,
    read_fs,
    res0,
    takeBoxes2]

theorem post_v93 : afterL postI V (Proc.devRef .tc main_v93) = res1 (keptScores (V (Proc.devRef .tc main_v84_5)) (V (Proc.devRef .tc main_v7)) (V (Proc.devRef .tc main_values))) := by
  simp only [preI, postI, afterL_cons, afterL_nil]
  rw [after_of_writes_sub hostOps0_20 _ hostOps0_20_writes (by decide : main_v93 ∉ hostOps0_20_W), after_of_writes_sub hostOps0_19 _ hostOps0_19_writes (by decide : main_v93 ∉ hostOps0_19_W), after_of_writes_sub hostOps0_18 _ hostOps0_18_writes (by decide : main_v93 ∉ hostOps0_18_W),
    read_v93,
    after_of_writes_sub hostOps0_15 _ hostOps0_15_writes (by decide : main_v88 ∉ hostOps0_15_W), after_of_writes_sub hostOps0_14 _ hostOps0_14_writes (by decide : main_v88 ∉ hostOps0_14_W), after_of_writes_sub hostOps0_13 _ hostOps0_13_writes (by decide : main_v88 ∉ hostOps0_13_W),
    read_v88,
    after_of_writes_sub hostOps0_15 _ hostOps0_15_writes (by decide : main_values_11 ∉ hostOps0_15_W), after_of_writes_sub hostOps0_14 _ hostOps0_14_writes (by decide : main_values_11 ∉ hostOps0_14_W), after_of_writes_sub hostOps0_13 _ hostOps0_13_writes (by decide : main_values_11 ∉ hostOps0_13_W),
    read_ov,
    read_fs,
    res1]

theorem post_v95 : afterL postI V (Proc.devRef .tc main_v95) = res2 (keptScores (V (Proc.devRef .tc main_v84_5)) (V (Proc.devRef .tc main_v7)) (V (Proc.devRef .tc main_values))) (V (Proc.devRef .tc main_v5)) := by
  simp only [preI, postI, afterL_cons, afterL_nil]
  rw [read_v95,
    after_of_writes_sub hostOps0_18 _ hostOps0_18_writes (by decide : main_v88 ∉ hostOps0_18_W), after_of_writes_sub hostOps0_17 _ hostOps0_17_writes (by decide : main_v88 ∉ hostOps0_17_W), after_of_writes_sub hostOps0_16 _ hostOps0_16_writes (by decide : main_v88 ∉ hostOps0_16_W), after_of_writes_sub hostOps0_15 _ hostOps0_15_writes (by decide : main_v88 ∉ hostOps0_15_W), after_of_writes_sub hostOps0_14 _ hostOps0_14_writes (by decide : main_v88 ∉ hostOps0_14_W), after_of_writes_sub hostOps0_13 _ hostOps0_13_writes (by decide : main_v88 ∉ hostOps0_13_W),
    read_v88,
    read_v94,
    after_of_writes_sub hostOps0_17 _ hostOps0_17_writes (by decide : main_v5 ∉ hostOps0_17_W), after_of_writes_sub hostOps0_16 _ hostOps0_16_writes (by decide : main_v5 ∉ hostOps0_16_W), after_of_writes_sub hostOps0_15 _ hostOps0_15_writes (by decide : main_v5 ∉ hostOps0_15_W), after_of_writes_sub hostOps0_14 _ hostOps0_14_writes (by decide : main_v5 ∉ hostOps0_14_W), after_of_writes_sub hostOps0_13 _ hostOps0_13_writes (by decide : main_v5 ∉ hostOps0_13_W), after_of_writes_sub hostOps0_12 _ hostOps0_12_writes (by decide : main_v5 ∉ hostOps0_12_W), after_of_writes_sub hostOps0_11 _ hostOps0_11_writes (by decide : main_v5 ∉ hostOps0_11_W), after_of_writes_sub hostOps0_10 _ hostOps0_10_writes (by decide : main_v5 ∉ hostOps0_10_W),
    after_of_writes_sub hostOps0_17 _ hostOps0_17_writes (by decide : main_indices_12 ∉ hostOps0_17_W), after_of_writes_sub hostOps0_16 _ hostOps0_16_writes (by decide : main_indices_12 ∉ hostOps0_16_W), after_of_writes_sub hostOps0_15 _ hostOps0_15_writes (by decide : main_indices_12 ∉ hostOps0_15_W), after_of_writes_sub hostOps0_14 _ hostOps0_14_writes (by decide : main_indices_12 ∉ hostOps0_14_W), after_of_writes_sub hostOps0_13 _ hostOps0_13_writes (by decide : main_indices_12 ∉ hostOps0_13_W),
    read_oi,
    read_fs,
    res2]

end Reads

section Run

/-- One trip of the loop: counter word `i`, the mask before it. -/
def stepKeep (valid : IVec S16x1000 1) (iou : FVec F S16x1000x1000 .f32) (i : IVec S_ 32) (keep : IVec S16x1000 1) : IVec S16x1000 1 :=
  let p := select (cmpi .slt i (constantI S_ 32 0#32)) (addi (id i) (constantI S_ 32 1000#32)) i
  select (broadcastInDim S16x1000 ![0, 1] bcast_S16x1_S16x1000_0_1
      (Host.dynamicSlice S16x1 (andi keep valid) (fun k => ((![constantI S_ 32 0#32, p] : Fin 2 → IVec S_ 32) k (Shape.Idx.first h_S_)).toInt) sliceFits_S16x1000_S16x1))
    (andi keep (noti (andi
      (cmpf .ogt (shapeCast S16x1000 (Host.dynamicSlice S16x1x1000 iou
          (fun k => ((![constantI S_ 32 0#32, p, constantI S_ 32 0#32] : Fin 3 → IVec S_ 32) k (Shape.Idx.first h_S_)).toInt) sliceFits_S16x1000x1000_S16x1x1000) shapeCasts_S16x1x1000_S16x1000)
        (broadcastInDim S16x1000 ![] bcast_S_S16x1000 (constant S_ .f32 0x3F000000#32 : FVec F S_ .f32)))
      (broadcastInDim S16x1000 ![0, 1] bcast_S1x1000_S16x1000_0_1 (broadcastInDim S1x1000 ![1] bcast_S1000_S1x1000_1
        (cmpi .sgt (iotaInDim S1000 32 0) (broadcastInDim S1000 ![] bcast_S_S1000 (id i)))))))) keep

/-- The mask before trip `k`. -/
def keepSeq (valid : IVec S16x1000 1) (iou : FVec F S16x1000x1000 .f32) : ℕ → IVec S16x1000 1
  | 0 => broadcastInDim S16x1000 ![] bcast_S_S16x1000 (constantI S_ 1 1#1)
  | k + 1 => stepKeep valid iou (fun _ => BitVec.ofNat 32 k) (keepSeq valid iou k)

variable (m : (ℓ : Loc nD τ sig) → Buf (Elt F) ℓ) (c : Dev nD)

/-- The arguments, as tables. -/
abbrev arg0 : FVec F S16x100000x5 .f32 := m ((c.tc : Thread nD τ).loc main_arg0)
abbrev arg1 : FVec F S16x100000 .f32 := m ((c.tc : Thread nD τ).loc main_arg1)
abbrev arg2 : IVec S16x100000 32 := m ((c.tc : Thread nD τ).loc main_arg2)

theorem seq_eq (k : ℕ) :
    (STEP^[k] (entryContents preI m c)) (Proc.devRef .tc main_v84_0) = validOf (valsOf (arg1 m c)) ∧
    (STEP^[k] (entryContents preI m c)) (Proc.devRef .tc main_v84_1) = iouR (takeBoxes (arg0 m c) (idxOf (arg1 m c))) (takeLabels (arg2 m c) (idxOf (arg1 m c))) ∧
    (STEP^[k] (entryContents preI m c)) (Proc.devRef .tc main_v84_2) = iotaInDim S1000 32 0 ∧
    (STEP^[k] (entryContents preI m c)) (Proc.devRef .tc main_v84_4) = (fun _ => BitVec.ofNat 32 k : IVec S_ 32) ∧
    (STEP^[k] (entryContents preI m c)) (Proc.devRef .tc main_v84_5)
      = keepSeq (validOf (valsOf (arg1 m c))) (iouR (takeBoxes (arg0 m c) (idxOf (arg1 m c))) (takeLabels (arg2 m c) (idxOf (arg1 m c)))) k := by
  induction k with
  | zero =>
    exact ⟨pre_valid _, pre_iou _, pre_iota _, pre_c4 _, pre_keep0 _⟩
  | succ k ih =>
    obtain ⟨h0, h1, h2, h4, h5⟩ := ih
    rw [Function.iterate_succ_apply']
    refine ⟨?_, ?_, ?_, ?_, ?_⟩
    · rw [STEP_main_v84_0, h0]
    · rw [STEP_main_v84_1, h1]
    · rw [STEP_main_v84_2, h2]
    · rw [STEP_main_v84_4, step_main_v84_4, h4]
      funext j
      show BitVec.ofNat 32 k + 1#32 = BitVec.ofNat 32 (k + 1)
      rw [BitVec.ofNat_add]
    · rw [STEP_main_v84_5, step_main_v84_5, h0, h1, h2, h4, h5]
      rfl

/-- The mask the loop leaves. -/
abbrev keepEnd : IVec S16x1000 1 :=
  keepSeq (validOf (valsOf (arg1 m c))) (iouR (takeBoxes (arg0 m c) (idxOf (arg1 m c))) (takeLabels (arg2 m c) (idxOf (arg1 m c)))) 1000

/-- The kept scores. -/
abbrev fsEnd : FVec F S16x1000 .f32 := keptScores (keepEnd m c) (validOf (valsOf (arg1 m c))) (valsOf (arg1 m c))

/-- The run, with its three results. -/
theorem run (ρ : Dev nD → PrngReg) : θ_run (defs (F := F)) (onTc (τ := τ) (main (F := F))) ⟨m, fun _ => 0, ρ⟩ (fun r => ∀ c : Dev nD,
    r.2.mem ((c.tc : Thread nD τ).loc main_v92) = res0 (fsEnd m c) (takeBoxes (arg0 m c) (idxOf (arg1 m c))) ∧
    r.2.mem ((c.tc : Thread nD τ).loc main_v93) = res1 (fsEnd m c) ∧
    r.2.mem ((c.tc : Thread nD τ).loc main_v95) = res2 (fsEnd m c) (takeLabels (arg2 m c) (idxOf (arg1 m c))) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2)) := by
  refine (θ_run (defs (F := F)) _ _).mono (fun r h c => ?_) (run_fold m ρ)
  have h5 : atK m 1000 c (Proc.devRef .tc main_v84_5) = keepEnd m c :=
    (atK_agree m c 1000 main_v84_5 (by decide)).trans (seq_eq m c 1000).2.2.2.2
  have h7 : atK m 1000 c (Proc.devRef .tc main_v7) = validOf (valsOf (arg1 m c)) :=
    (loop_keep m c (by decide) (by decide) 1000).trans (pre_v7 _)
  have hv : atK m 1000 c (Proc.devRef .tc main_values) = valsOf (arg1 m c) :=
    (loop_keep m c (by decide) (by decide) 1000).trans (pre_values _)
  have h4 : atK m 1000 c (Proc.devRef .tc main_v4) = takeBoxes (arg0 m c) (idxOf (arg1 m c)) :=
    (loop_keep m c (by decide) (by decide) 1000).trans (pre_v4 _)
  have hl : atK m 1000 c (Proc.devRef .tc main_v5) = takeLabels (arg2 m c) (idxOf (arg1 m c)) :=
    (loop_keep m c (by decide) (by decide) 1000).trans (pre_v5 _)
  have hf : after condOps (atK m 1000 c) = after condOps (atTrip condOps bodyI (entryContents preI m) 1000 c) := rfl
  have hc : ∀ r : Ref sig .tc, r ∉ condOps_W → after condOps (atTrip condOps bodyI (entryContents preI m) 1000 c) (Proc.devRef .tc r) = atK m 1000 c (Proc.devRef .tc r) :=
    fun r hr => after_of_writes_sub condOps _ condOps_writes hr
  refine ⟨(h c main_v92 rfl).trans ?_, (h c main_v93 rfl).trans ?_, (h c main_v95 rfl).trans ?_,
    (h c main_arg0 rfl).trans (final_arg m c (by decide)), (h c main_arg1 rfl).trans (final_arg m c (by decide)),
    (h c main_arg2 rfl).trans (final_arg m c (by decide))⟩
  · refine (post_v92 _).trans ?_
    rw [hc main_v84_5 (by decide), hc main_v7 (by decide), hc main_values (by decide), hc main_v4 (by decide), h5, h7, hv, h4]
  · refine (post_v93 _).trans ?_
    rw [hc main_v84_5 (by decide), hc main_v7 (by decide), hc main_values (by decide), h5, h7, hv]
  · refine (post_v95 _).trans ?_
    rw [hc main_v84_5 (by decide), hc main_v7 (by decide), hc main_values (by decide), hc main_v5 (by decide), h5, h7, hv, hl]

end Run

end Cert.ReferenceIdeal.Hand

end
-- ==== Proof.RefRead.lean ====
/-
  The reference's values read at an index over the extended reals: the selected scores, boxes and labels, the visits of
  the greedy loop, and the three results as "the r-th survivor, or nothing".
-/
module

public import proofs.«01_k».proof.Proof.RefRun
public import proofs.«01_k».proof.Proof.Select
public import proofs.«01_k».proof.Proof.Spec
public import proofs.«01_k».proof.Proof.Overlap

@[expose] public section

set_option maxRecDepth 16384

noncomputable section

namespace Cert.ReferenceIdeal.Hand

open Idealize.ShloMosaic Idealize.ShloMosaic.TcCoe
open Cert.ReferenceIdeal Cert.ReferenceIdeal.Gen

theorem word_toInt {p n : ℕ} (hp : p < n) (hn : n ≤ 100000) : (BitVec.ofNat 32 p).toInt = p := by
  rw [BitVec.toInt_eq_toNat_of_lt] <;> rw [BitVec.toNat_ofNat, Nat.mod_eq_of_lt (by omega)]
  omega

theorem word_slt {p n : ℕ} (hp : p < n) (hn : n ≤ 100000) : IntOp.cmpi .slt (BitVec.ofNat 32 p) 0#32 = 0#1 := by
  have e := word_toInt hp hn
  have : ¬ ((p : ℤ) < 0) := by omega
  simp [IntOp.cmpi, BitVec.slt, e, this]

theorem word_sge {p n : ℕ} (hp : p < n) (hn : n ≤ 100000) : IntOp.cmpi .sge (BitVec.ofNat 32 p) 0#32 = 1#1 := by
  have e := word_toInt hp hn
  simp [IntOp.cmpi, BitVec.sle, e]

theorem word_sle {p n : ℕ} (hp : p < n + 1) (hn : n < 100000) : IntOp.cmpi .sle (BitVec.ofNat 32 p) (BitVec.ofNat 32 n) = 1#1 := by
  have e := word_toInt hp (by omega)
  have e' := word_toInt (Nat.lt_succ_self n) hn
  have : (p : ℤ) ≤ n := by omega
  simp [IntOp.cmpi, BitVec.sle, e, e', this]

theorem select_zero {α : Type} (x y : α) : Scalar.select 0#1 x y = y := rfl

theorem select_one {α : Type} (x y : α) : Scalar.select 1#1 x y = x := rfl

theorem takeBoxes_apply (x : FVec Ideal S16x100000x5 .f32) (i : IVec S16x1000 32) (b : Fin 16) (r : Fin 1000) (ch : Fin 5)
    (p : Fin 100000) (hp : i (ix2 b r) = BitVec.ofNat 32 p.val) : takeBoxes x i (ix3 b r ch) = x (ix3 b p ch) := by
  have hN : 100000 ≤ 100000 := by omega
  have e := word_toInt p.isLt hN
  pointwise [takeBoxes, takeBoxesCol]
  rw [hp, word_slt p.isLt hN, select_zero, word_sge p.isLt hN, word_sle (n := 99999) p.isLt (by omega)]
  refine Eq.trans (b := Scalar.select 1#1 _ _) rfl ?_
  rw [select_one]
  refine Select.gather_rows _ _ rfl _ _ b r ch p ?_
  pointwise []
  rw [hp, word_slt p.isLt hN, select_zero, e]
  rfl

theorem takeLabels_apply (x : IVec S16x100000 32) (i : IVec S16x1000 32) (b : Fin 16) (r : Fin 1000)
    (p : Fin 100000) (hp : i (ix2 b r) = BitVec.ofNat 32 p.val) : takeLabels x i (ix2 b r) = x (ix2 b p) := by
  have hN : 100000 ≤ 100000 := by omega
  have e := word_toInt p.isLt hN
  pointwise [takeLabels]
  rw [hp, word_slt p.isLt hN, select_zero, word_sge p.isLt hN, word_sle (n := 99999) p.isLt (by omega)]
  refine Eq.trans (b := Scalar.select 1#1 _ _) rfl ?_
  rw [select_one]
  refine Select.gather_entries _ _ rfl _ _ b r p ?_
  pointwise []
  rw [hp, word_slt p.isLt hN, select_zero, e]
  rfl

theorem takeBoxes2_apply (x : FVec Ideal S16x1000x5 .f32) (i : IVec S16x300 32) (b : Fin 16) (r : Fin 300) (ch : Fin 5)
    (p : Fin 1000) (hp : i (ix2 b r) = BitVec.ofNat 32 p.val) : takeBoxes2 x i (ix3 b r ch) = x (ix3 b p ch) := by
  have hN : 1000 ≤ 100000 := by omega
  have e := word_toInt p.isLt hN
  pointwise [takeBoxes2, takeBoxes2Col]
  rw [hp, word_slt p.isLt hN, select_zero, word_sge p.isLt hN, word_sle (n := 999) p.isLt (by omega)]
  refine Eq.trans (b := Scalar.select 1#1 _ _) rfl ?_
  rw [select_one]
  refine Select.gather_rows _ _ rfl _ _ b r ch p ?_
  pointwise []
  rw [hp, word_slt p.isLt hN, select_zero, e]
  rfl

theorem takeLabels2_apply (x : IVec S16x1000 32) (i : IVec S16x300 32) (b : Fin 16) (r : Fin 300)
    (p : Fin 1000) (hp : i (ix2 b r) = BitVec.ofNat 32 p.val) : takeLabels2 x i (ix2 b r) = x (ix2 b p) := by
  have hN : 1000 ≤ 100000 := by omega
  have e := word_toInt p.isLt hN
  pointwise [takeLabels2]
  rw [hp, word_slt p.isLt hN, select_zero, word_sge p.isLt hN, word_sle (n := 999) p.isLt (by omega)]
  refine Eq.trans (b := Scalar.select 1#1 _ _) rfl ?_
  rw [select_one]
  refine Select.gather_entries _ _ rfl _ _ b r p ?_
  pointwise []
  rw [hp, word_slt p.isLt hN, select_zero, e]
  rfl

/-- The overlap of two selected boxes. -/
theorem iouR_apply (x : FVec Ideal S16x1000x5 .f32) (l : IVec S16x1000 32) (b : Fin 16) (i j : Fin 1000) :
    iouR x l (ix3 b i j) = Overlap.iouRef (x (ix3 b i 0)) (x (ix3 b i 1)) (x (ix3 b i 2)) (x (ix3 b i 3)) (x (ix3 b i 4)) (FloatOps.sitofp (F := Ideal) .f32 (l (ix2 b i)))
      (x (ix3 b j 0)) (x (ix3 b j 1)) (x (ix3 b j 2)) (x (ix3 b j 3)) (x (ix3 b j 4)) (FloatOps.sitofp (F := Ideal) .f32 (l (ix2 b j))) := by
  pointwise [iouR, iouOf, downRows, alongCols, offX, colX, colY, hullW, hullH, colW, colH, colA]
  rfl

/-- One visit, at a box. -/
theorem stepKeep_apply (valid : IVec S16x1000 1) (iou : FVec Ideal S16x1000x1000 .f32) (keep : IVec S16x1000 1) (k : Fin 1000) (b : Fin 16) (j : Fin 1000) :
    stepKeep valid iou (fun _ => BitVec.ofNat 32 k.val) keep (ix2 b j) =
      Scalar.select (IntOp.andi (keep (ix2 b k)) (valid (ix2 b k)))
        (IntOp.andi (keep (ix2 b j)) (~~~IntOp.andi (BitVec.ofBool (decide (Ideal.ofBits FTy.f32 1056964608#32 < iou (ix3 b k j))))
          (IntOp.cmpi .sgt (BitVec.ofNat 32 j.val) (BitVec.ofNat 32 k.val)))) (keep (ix2 b j)) := by
  have e := word_toInt k.isLt (by omega : 1000 ≤ 100000)
  have hp : select (cmpi CmpIPredicate.slt (fun _ => BitVec.ofNat 32 k.val) (constantI S_ 32 0#32))
      (addi (id fun _ => BitVec.ofNat 32 k.val) (constantI S_ 32 1000#32)) (fun _ => BitVec.ofNat 32 k.val) = (fun _ : S_.Idx => BitVec.ofNat 32 k.val) := by
    funext z
    show Scalar.select (IntOp.cmpi .slt (BitVec.ofNat 32 k.val) 0#32) _ _ = _
    rw [word_slt k.isLt (by omega), select_zero]
  unfold stepKeep
  dsimp only
  rw [hp]
  pointwise []
  have h0 : Host.clampedStart S16x1000 S16x1 sliceFits_S16x1000_S16x1.1
      (fun a => ((![constantI S_ 32 0#32, fun _ => BitVec.ofNat 32 k.val] : Fin 2 → IVec S_ 32) a (Shape.Idx.first h_S_)).toInt) 0 = 0 := rfl
  have h1 : Host.clampedStart S16x1000 S16x1 sliceFits_S16x1000_S16x1.1
      (fun a => ((![constantI S_ 32 0#32, fun _ => BitVec.ofNat 32 k.val] : Fin 2 → IVec S_ 32) a (Shape.Idx.first h_S_)).toInt) 1 = k.val := by
    refine Host.clampedStart_of_le _ _ _ k.val e ?_
    show k.val + 1 ≤ 1000
    omega
  have t0 : Host.clampedStart S16x1000x1000 S16x1x1000 sliceFits_S16x1000x1000_S16x1x1000.1
      (fun a => ((![constantI S_ 32 0#32, fun _ => BitVec.ofNat 32 k.val, constantI S_ 32 0#32] : Fin 3 → IVec S_ 32) a (Shape.Idx.first h_S_)).toInt) 0 = 0 := rfl
  have t1 : Host.clampedStart S16x1000x1000 S16x1x1000 sliceFits_S16x1000x1000_S16x1x1000.1
      (fun a => ((![constantI S_ 32 0#32, fun _ => BitVec.ofNat 32 k.val, constantI S_ 32 0#32] : Fin 3 → IVec S_ 32) a (Shape.Idx.first h_S_)).toInt) 1 = k.val := by
    refine Host.clampedStart_of_le _ _ _ k.val e ?_
    show k.val + 1 ≤ 1000
    omega
  have t2 : Host.clampedStart S16x1000x1000 S16x1x1000 sliceFits_S16x1000x1000_S16x1x1000.1
      (fun a => ((![constantI S_ 32 0#32, fun _ => BitVec.ofNat 32 k.val, constantI S_ 32 0#32] : Fin 3 → IVec S_ 32) a (Shape.Idx.first h_S_)).toInt) 2 = 0 := rfl
  simp only [h0, h1, t0, t1, t2, Nat.zero_add, Fin.eta, id_eq]

/-- Where the greedy loop stands before visit `n`. -/
theorem keepSeq_iff (valid : IVec S16x1000 1) (iou : FVec Ideal S16x1000x1000 .f32) (b : Fin 16) (n : ℕ) (hn : n ≤ 1000) (j : Fin 1000) :
    keepSeq valid iou n (ix2 b j) = 1#1 ↔
      Greedy.keep 1000 (fun i => valid (ix2 b i) = 1#1) (fun i j => Ideal.ofBits FTy.f32 1056964608#32 < iou (ix3 b i j)) n j := by
  induction n generalizing j with
  | zero =>
    have : keepSeq valid iou 0 (ix2 b j) = 1#1 := rfl
    simp only [this, true_iff]
    trivial
  | succ n ih =>
    have h := stepKeep_apply valid iou (keepSeq valid iou n) ⟨n, hn⟩ b j
    have hs : keepSeq valid iou (n + 1) (ix2 b j) = _ := h
    rw [hs, Greedy.keep_succ n hn, Select.select_bit, Select.andi_one, Select.andi_one, Select.noti_one, Select.andi_one, Select.ofBool_one,
      Select.sgt_one _ _ (by omega) (by omega), ih (by omega), ih (by omega)]
    dsimp only
    tauto

/-! ### What is selected first -/

/-- Where the `j`-th selected score of an image stands. -/
def pl (s : FVec Ideal S16x100000 .f32) (b : Fin 16) (j : Fin 1000) : Fin 100000 := Select.place (scoresOf s) b (j.castLE (by omega))

theorem valsOf_apply (s : FVec Ideal S16x100000 .f32) (b : Fin 16) (j : Fin 1000) : valsOf s (ix2 b j) = scoresOf s (ix2 b (pl s b j)) :=
  (Select.topK_apply (scoresOf s) _ (by omega) b j).1

theorem idxOf_apply (s : FVec Ideal S16x100000 .f32) (b : Fin 16) (j : Fin 1000) : idxOf s (ix2 b j) = BitVec.ofNat 32 (pl s b j).val :=
  (Select.topK_apply (scoresOf s) _ (by omega) b j).2

theorem vals_desc (s : FVec Ideal S16x100000 .f32) (b : Fin 16) (i j : Fin 1000) (h : i < j) : valsOf s (ix2 b j) ≤ valsOf s (ix2 b i) := by
  rw [valsOf_apply, valsOf_apply]
  exact Select.place_desc (scoresOf s) b _ _ h

theorem boxes_apply (x : FVec Ideal S16x100000x5 .f32) (s : FVec Ideal S16x100000 .f32) (b : Fin 16) (j : Fin 1000) (ch : Fin 5) :
    takeBoxes x (idxOf s) (ix3 b j ch) = x (ix3 b (pl s b j) ch) := takeBoxes_apply x _ b j ch _ (idxOf_apply s b j)

theorem valid_iff (v : FVec Ideal S16x1000 .f32) (b : Fin 16) (j : Fin 1000) : validOf v (ix2 b j) = 1#1 ↔ Ideal.ofBits FTy.f32 3454954280#32 < v (ix2 b j) := by
  have : validOf v (ix2 b j) = BitVec.ofBool (decide (Ideal.ofBits FTy.f32 3454954280#32 < v (ix2 b j))) := by
    pointwise [validOf]
  rw [this, Select.ofBool_one]

/-! ### The results -/

/-- Box `j` of image `b` survives. -/
def Survives (keep valid : IVec S16x1000 1) (b : Fin 16) (j : ℕ) : Prop := ∃ h : j < 1000, keep (ix2 b ⟨j, h⟩) = 1#1 ∧ valid (ix2 b ⟨j, h⟩) = 1#1

theorem kept_of (keep : IVec S16x1000 1) (v : FVec Ideal S16x1000 .f32) (b : Fin 16) (j : Fin 1000) (h : Survives keep (validOf v) b j) :
    keptScores keep (validOf v) v (ix2 b j) = v (ix2 b j) := by
  obtain ⟨_, h1, h2⟩ := h
  have : keptScores keep (validOf v) v (ix2 b j) = Scalar.select (IntOp.andi (keep (ix2 b j)) (validOf v (ix2 b j))) (v (ix2 b j)) (Ideal.ofBits .f32 3463342888#32) := by
    pointwise [keptScores]
  rw [this, Select.select_eq, if_pos ((Select.andi_one _ _).mpr ⟨h1, h2⟩)]

theorem struck_of (keep : IVec S16x1000 1) (v : FVec Ideal S16x1000 .f32) (b : Fin 16) (j : Fin 1000) (h : ¬ Survives keep (validOf v) b j) :
    keptScores keep (validOf v) v (ix2 b j) = Ideal.ofBits .f32 3463342888#32 := by
  have : keptScores keep (validOf v) v (ix2 b j) = Scalar.select (IntOp.andi (keep (ix2 b j)) (validOf v (ix2 b j))) (v (ix2 b j)) (Ideal.ofBits .f32 3463342888#32) := by
    pointwise [keptScores]
  rw [this, Select.select_eq, if_neg (fun x => h ⟨j.isLt, (Select.andi_one _ _).mp x⟩)]

theorem res1_apply (fs : FVec Ideal S16x1000 .f32) (b : Fin 16) (r : Fin 300) :
    res1 fs (ix2 b r) = if Ideal.ofBits FTy.f32 3454954280#32 < outVals fs (ix2 b r) then outVals fs (ix2 b r) else 0 := by
  pointwise [res1, outOk]

theorem res0_apply (fs : FVec Ideal S16x1000 .f32) (B : FVec Ideal S16x1000x5 .f32) (b : Fin 16) (r : Fin 300) (ch : Fin 5) :
    res0 fs B (ix3 b r ch) = if Ideal.ofBits FTy.f32 3454954280#32 < outVals fs (ix2 b r) then takeBoxes2 B (outIdx fs) (ix3 b r ch) else 0 := by
  pointwise [res0, outOk]

theorem res2_apply (fs : FVec Ideal S16x1000 .f32) (L : IVec S16x1000 32) (b : Fin 16) (r : Fin 300) :
    res2 fs L (ix2 b r) = if Ideal.ofBits FTy.f32 3454954280#32 < outVals fs (ix2 b r) then takeLabels2 L (outIdx fs) (ix2 b r) else 4294967295#32 := by
  pointwise [res2, outOk]

/-- The results at `(b, r)`: of the `r`-th survivor, or nothing. -/
theorem results (keep : IVec S16x1000 1) (v : FVec Ideal S16x1000 .f32) (B : FVec Ideal S16x1000x5 .f32) (L : IVec S16x1000 32) (b : Fin 16)
    (hv : ∀ i j : Fin 1000, i < j → v (ix2 b j) ≤ v (ix2 b i)) (r : Fin 300) :
    (∃ j : Fin 1000, Greedy.IsNth (Survives keep (validOf v) b) r j ∧ res1 (keptScores keep (validOf v) v) (ix2 b r) = v (ix2 b j) ∧
      (∀ ch, res0 (keptScores keep (validOf v) v) B (ix3 b r ch) = B (ix3 b j ch)) ∧ res2 (keptScores keep (validOf v) v) L (ix2 b r) = L (ix2 b j)) ∨
    ((∀ j < 1000, ¬ Greedy.IsNth (Survives keep (validOf v) b) r j) ∧ res1 (keptScores keep (validOf v) v) (ix2 b r) = 0 ∧
      (∀ ch, res0 (keptScores keep (validOf v) v) B (ix3 b r ch) = 0) ∧ res2 (keptScores keep (validOf v) v) L (ix2 b r) = 4294967295#32) := by
  have hk := kept_of keep v b
  have hs := struck_of keep v b
  have hplay : ∀ j : Fin 1000, Survives keep (validOf v) b j → Ideal.ofBits FTy.f32 3454954280#32 < v (ix2 b j) := fun j h => (valid_iff v b j).mp h.2.2
  generalize keptScores keep (validOf v) v = fs at hk hs ⊢
  generalize Survives keep (validOf v) b = P at hk hs hplay ⊢
  have ho : outVals fs (ix2 b r) = fs (ix2 b (Select.place fs b (r.castLE (by omega)))) := (Select.topK_apply fs _ (by omega) b r).1
  have hi : outIdx fs (ix2 b r) = BitVec.ofNat 32 (Select.place fs b (r.castLE (by omega))).val := (Select.topK_apply fs _ (by omega) b r).2
  rw [res1_apply, res2_apply, ho, takeLabels2_apply L _ b r _ hi]
  simp only [res0_apply, ho, takeBoxes2_apply B _ b r _ _ hi]
  have hd := Greedy.sortedFrom_holes (fun k k' : Fin 1000 => decide (fs (ix2 b k') < fs (ix2 b k))) P
    (fun p q hp hq => by
      rw [decide_eq_true_eq, hk p hp, hs q hq]
      exact Overlap.out_lt_play.trans (hplay p hp))
    (fun p q hp => by
      rw [decide_eq_false_iff_not, not_lt, hs p hp]
      by_cases hq : P q
      · rw [hk q hq]; exact (Overlap.out_lt_play.trans (hplay q hq)).le
      · rw [hs q hq])
    (fun p q hpq hp hq => by
      rw [decide_eq_false_iff_not, not_lt, hk p hp, hk q hq]
      exact hv p q hpq) (r.castLE (by omega))
  have hpl : Select.place fs b (r.castLE (by omega)) = sortedFrom (fun k k' : Fin 1000 => decide (fs (ix2 b k') < fs (ix2 b k))) (r.castLE (by omega)) := rfl
  rw [← hpl] at hd
  generalize Select.place fs b (r.castLE (by omega)) = p at hd ⊢
  rcases hd with hd | ⟨hd, hp⟩
  · left
    have hP : P p := hd.1
    refine ⟨p, hd, ?_, ?_, ?_⟩
    · rw [hk p hP, if_pos (hplay p hP)]
    · intro ch; rw [hk p hP, if_pos (hplay p hP)]
    · rw [hk p hP, if_pos (hplay p hP)]
  · right
    have hnot : ¬ Ideal.ofBits FTy.f32 3454954280#32 < fs (ix2 b p) := by
      rw [hs p hp]; exact not_lt.mpr Overlap.out_lt_play.le
    refine ⟨hd, ?_, ?_, ?_⟩
    · rw [if_neg hnot]
    · intro ch; rw [if_neg hnot]
    · rw [if_neg hnot]

end Cert.ReferenceIdeal.Hand

end
-- ==== Proof.Bridge.lean ====
/-
  The two programs side by side: under the range asked of the boxes, the kernel's survivors are the reference's, and so
  are the three results.
-/
module

public import proofs.«01_k».proof.Proof.KRead
public import proofs.«01_k».proof.Proof.RefRead

@[expose] public section

set_option maxRecDepth 16384

noncomputable section

namespace Bridge

open Idealize.ShloMosaic Idealize.ShloMosaic.TcCoe
open Cert.KernelIdeal Cert.KernelIdeal.Gen
open Cert.KernelIdeal.Hand (packed packedT slab slabT iouTab tile cell rowX Lives lastKeep keepAt keepAt_eq tab_apply packed_box packed_score packed_label outArr out0 out1 out2)
open Cert.ReferenceIdeal.Hand (valsOf idxOf takeBoxes takeLabels validOf iouR keepSeq Survives res0 res1 res2 keptScores keepSeq_iff valid_iff)

/-- What is asked of every box of the first argument. -/
def AllGood (x : FVec Ideal S16x100000x5 .f32) : Prop :=
  ∀ (b : Fin 16) (p : Fin 100000), Overlap.Good (x (ix3 b p 0)) (x (ix3 b p 2)) (x (ix3 b p 3))

variable (v : FVec Ideal S16x1000 .f32) (B : FVec Ideal S16x1000x5 .f32) (L : IVec S16x1000 32) (b : Fin 16)

/-- The two overlap tables pass the same pairs. -/
theorem tables (hB : ∀ j : Fin 1000, Overlap.Good (B (ix3 b j 0)) (B (ix3 b j 2)) (B (ix3 b j 3))) (i j : Fin 1000) :
    Ideal.ofBits FTy.f32 1056964608#32 < iouR B L (ix3 b i j) ↔
    Ideal.ofBits FTy.f32 1056964608#32 < cell (iouTab (slab (packed v B L) b) (slabT (packedT (packed v B L)) b)) (i.castLE (by omega)) (j.castLE (by omega)) := by
  have hj : ∀ h, (⟨j.val / 128 * 128 + j.val % 128, h⟩ : Fin 1024) = j.castLE (by omega) := fun h => Fin.ext (by simp only [Fin.val_castLE]; omega)
  have hr : ∀ (k : Fin 1000) (ch : Fin 5), rowX (packed v B L) b (k.castLE (by omega)) (ch.castLE (by omega)) = B (ix3 b k ch) := packed_box b v B L
  have e0 : ∀ k : Fin 1000, rowX (packed v B L) b (k.castLE (by omega)) 0 = B (ix3 b k 0) := fun k => hr k 0
  have e1 : ∀ k : Fin 1000, rowX (packed v B L) b (k.castLE (by omega)) 1 = B (ix3 b k 1) := fun k => hr k 1
  have e2 : ∀ k : Fin 1000, rowX (packed v B L) b (k.castLE (by omega)) 2 = B (ix3 b k 2) := fun k => hr k 2
  have e3 : ∀ k : Fin 1000, rowX (packed v B L) b (k.castLE (by omega)) 3 = B (ix3 b k 3) := fun k => hr k 3
  have e4 : ∀ k : Fin 1000, rowX (packed v B L) b (k.castLE (by omega)) 4 = B (ix3 b k 4) := fun k => hr k 4
  have ht : cell (iouTab (slab (packed v B L) b) (slabT (packedT (packed v B L)) b)) (i.castLE (by omega)) (j.castLE (by omega)) =
      if (((L (ix2 b i)).toInt : ℝ) : EReal) = (((L (ix2 b j)).toInt : ℝ) : EReal) then
        Overlap.iouKer (B (ix3 b i 0)) (B (ix3 b i 1)) (B (ix3 b i 2)) (B (ix3 b i 3)) (B (ix3 b i 4))
          (B (ix3 b j 0)) (B (ix3 b j 1)) (B (ix3 b j 2)) (B (ix3 b j 3)) (B (ix3 b j 4)) else 0 := by
    unfold cell
    refine (tab_apply (packed v B L) b _ _ _).trans ?_
    simp only [Fin.val_castLE, hj]
    unfold Cert.KernelIdeal.Hand.over
    rw [packed_label, packed_label, e0, e1, e2, e3, e4, e0, e1, e2, e3, e4]
  rw [ht, Cert.ReferenceIdeal.Hand.iouR_apply]
  refine (Overlap.strikes_iff _ _ _ _ _ _ _ _ _ _ (L (ix2 b i)).toInt (L (ix2 b j)).toInt (hB i) (hB j)).trans ?_
  by_cases h : (L (ix2 b i)).toInt = (L (ix2 b j)).toInt
  · rw [if_pos (by rw [h])]
    simp only [h, true_and]
  · rw [if_neg (fun e => h (by exact_mod_cast EReal.coe_eq_coe_iff.mp e))]
    simp only [h, false_and, false_iff]
    exact Cert.KernelIdeal.Hand.not_half_lt_zero

/-- The survivors are the same. -/
theorem survivors (hv : ∀ i j : Fin 1000, i < j → v (ix2 b j) ≤ v (ix2 b i))
    (hB : ∀ j : Fin 1000, Overlap.Good (B (ix3 b j 0)) (B (ix3 b j 2)) (B (ix3 b j 3))) :
    Lives (packed v B L) b (lastKeep (packed v B L) b) = Survives (keepSeq (validOf v) (iouR B L) 1000) (validOf v) b := by
  have main : ∀ j : Fin 1000, validOf v (ix2 b j) = 1#1 →
      (keepSeq (validOf v) (iouR B L) 1000 (ix2 b j) = 1#1 ↔ lastKeep (packed v B L) b (tile (j.castLE (by omega))) = 1) := by
    intro j hj
    rw [keepSeq_iff _ _ b 1000 le_rfl j]
    unfold lastKeep
    rw [keepAt_eq _ 1024 le_rfl]
    refine (Greedy.keep_padded (by omega : 1000 ≤ 1024)
      (fun i j => Ideal.ofBits FTy.f32 1056964608#32 < cell (iouTab (slab (packed v B L) b) (slabT (packedT (packed v B L)) b)) i j) ?_ ?_ j hj).trans ?_
    · intro p q hpq hq
      rw [valid_iff] at hq ⊢
      exact lt_of_lt_of_le hq (hv p q hpq)
    · intro p q _ _
      exact tables v B L b hB p q
    · constructor
      · intro h; exact if_pos h
      · intro h
        by_contra hn
        rw [if_neg hn] at h
        exact zero_ne_one h
  funext j
  apply propext
  constructor
  · rintro ⟨hj, h1, h2⟩
    rw [packed_score] at h2
    by_cases hlt : j < 1000
    · rw [dif_pos hlt] at h2
      have hval := (valid_iff v b ⟨j, hlt⟩).mpr h2
      exact ⟨hlt, (main ⟨j, hlt⟩ hval).mpr h1, hval⟩
    · rw [dif_neg hlt] at h2
      exact absurd h2 (not_lt.mpr Overlap.out_lt_play.le)
  · rintro ⟨hlt, h1, h2⟩
    refine ⟨by omega, (main ⟨j, hlt⟩ h2).mp h1, ?_⟩
    rw [packed_score, dif_pos hlt]
    exact (valid_iff v b ⟨j, hlt⟩).mp h2

/-- The three results are the same. -/
theorem same (hv : ∀ (b : Fin 16) (i j : Fin 1000), i < j → v (ix2 b j) ≤ v (ix2 b i))
    (hB : ∀ (b : Fin 16) (j : Fin 1000), Overlap.Good (B (ix3 b j 0)) (B (ix3 b j 2)) (B (ix3 b j 3))) :
    res0 (keptScores (keepSeq (validOf v) (iouR B L) 1000) (validOf v) v) B = out0 (outArr (packed v B L)) ∧
    res1 (keptScores (keepSeq (validOf v) (iouR B L) 1000) (validOf v) v) = out1 (outArr (packed v B L)) ∧
    res2 (keptScores (keepSeq (validOf v) (iouR B L) 1000) (validOf v) v) L = out2 (outArr (packed v B L)) := by
  have key : ∀ (b : Fin 16) (r : Fin 300),
      (∀ ch, res0 (keptScores (keepSeq (validOf v) (iouR B L) 1000) (validOf v) v) B (ix3 b r ch) = out0 (outArr (packed v B L)) (ix3 b r ch)) ∧
      res1 (keptScores (keepSeq (validOf v) (iouR B L) 1000) (validOf v) v) (ix2 b r) = out1 (outArr (packed v B L)) (ix2 b r) ∧
      res2 (keptScores (keepSeq (validOf v) (iouR B L) 1000) (validOf v) v) L (ix2 b r) = out2 (outArr (packed v B L)) (ix2 b r) := by
    intro b r
    have hR := Cert.ReferenceIdeal.Hand.results (keepSeq (validOf v) (iouR B L) 1000) v B L b (hv b) r
    have hK := Cert.KernelIdeal.Hand.results b v B L r
    rw [survivors v B L b (hv b) (hB b)] at hK
    rcases hR with ⟨j, hj, r1, r0, r2⟩ | ⟨hn, r1, r0, r2⟩
    · rcases hK with ⟨i, hi, k1, k0, k2⟩ | ⟨hn, _⟩
      · have hij : i = j := Fin.ext (hi.unique hj)
        subst hij
        exact ⟨fun ch => (r0 ch).trans (k0 ch).symm, r1.trans k1.symm, r2.trans k2.symm⟩
      · exact absurd hj (hn j j.isLt)
    · rcases hK with ⟨i, hi, _⟩ | ⟨_, k1, k0, k2⟩
      · exact absurd hi (hn i i.isLt)
      · exact ⟨fun ch => (r0 ch).trans (k0 ch).symm, r1.trans k1.symm, r2.trans k2.symm⟩
  refine ⟨?_, ?_, ?_⟩
  · funext i
    rw [eq_ix3 i]
    exact (key _ _).1 _
  · funext i
    rw [eq_ix2 i]
    exact (key _ _).2.1
  · funext i
    rw [eq_ix2 i]
    exact (key _ _).2.2

end Bridge

end
-- ==== Proof.Range.lean ====
/-
  The precondition read at a box.
-/
module

public import proofs.«01_k».proof.Proof.Bridge
public import proofs.«01_k».proof.Pre_boxes_in_range

@[expose] public section

noncomputable section

namespace Bridge

open Idealize.ShloMosaic

variable [Cert.Pre_boxes_in_range.Facts]

/-- Under the precondition every box is in the range the proof asks for. -/
theorem good_of_range (x : FVec Ideal Cert.Pre_boxes_in_range.S16x100000x5 .f32) (s : FVec Ideal Cert.Pre_boxes_in_range.S16x100000 .f32)
    (l : IVec Cert.Pre_boxes_in_range.S16x100000 32) (h : Cert.Pre_boxes_in_range.fn x s l = fun _ => 1#1) : AllGood x := by
  intro b p
  have e : Cert.Pre_boxes_in_range.fn x s l (ix2 b p) = 1#1 ↔
      ((0 ≤ x (ix3 b p 2) ∧ 0 ≤ x (ix3 b p 3)) ∧
        FloatOps.absf (F := Ideal) (φ := .f32) (x (ix3 b p 0)) + Ideal.ofBits FTy.f32 1056964608#32 * (x (ix3 b p 2) + x (ix3 b p 3)) ≤
          Ideal.ofBits FTy.f32 0x47435000#32) := by
    pointwise [Cert.Pre_boxes_in_range.fn]
    simp only [Select.andi_one, Select.ofBool_one]
  have h1 := e.mp (congrFun h (ix2 b p))
  rw [Overlap.limit_val, Overlap.half_val] at h1
  exact Overlap.good_of_sum _ _ _ h1.1.1 h1.1.2 h1.2

end Bridge

end
-- ==== Proof.lean ====
/-
  The proof of `Cert.Claim`: the three frames, that idealizing changes nothing, and that the kernel's three results are
  the reference's on boxes in range. The modules under `Proof/` carry the argument; this one puts it together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_boxes_in_range
public import proofs.«01_k».proof.Proof.RefFrame
public import proofs.«01_k».proof.Proof.Range
public import Idealize.ShloMosaic.Adequacy
public import Idealize.ShloMosaic.Init

@[expose] public section

noncomputable section

namespace Cert.Proof

open Idealize.ShloMosaic Idealize.SL.Sem

/-- The last claim: from equal arguments in range both programs end with the same three results. -/
theorem algebraic : Cert.algebraic_KernelIdeal_ReferenceIdeal_pre_boxes_in_range (hKernelIdeal := Cert.KernelIdeal.Gen.facts)
    (hReferenceIdeal := Cert.ReferenceIdeal.Gen.facts) (hPre_boxes_in_range := Cert.Pre_boxes_in_range.Gen.facts) := by
  intro m g m' g' hpre hargs
  refine ⟨fun c => Cert.KernelIdeal.Hand.out0 (Cert.KernelIdeal.Hand.outArr (Cert.KernelIdeal.Hand.table m c)),
    fun c => Cert.KernelIdeal.Hand.out1 (Cert.KernelIdeal.Hand.outArr (Cert.KernelIdeal.Hand.table m c)),
    fun c => Cert.KernelIdeal.Hand.out2 (Cert.KernelIdeal.Hand.outArr (Cert.KernelIdeal.Hand.table m c)),
    Cert.KernelIdeal.Hand.run m g, ?_⟩
  refine (θ_run (Cert.ReferenceIdeal.defs (F := Ideal)) _ _).mono (fun r hr c => ?_) (Cert.ReferenceIdeal.Hand.run m' g')
  obtain ⟨h0, h1, h2, ha⟩ := hr c
  obtain ⟨e0, e1, e2⟩ := hargs c
  have f0 : Cert.ReferenceIdeal.Hand.arg0 m' c = Cert.KernelIdeal.Hand.arg0 m c := e0
  have f1 : Cert.ReferenceIdeal.Hand.arg1 m' c = Cert.KernelIdeal.Hand.arg1 m c := e1
  have f2 : Cert.ReferenceIdeal.Hand.arg2 m' c = Cert.KernelIdeal.Hand.arg2 m c := e2
  simp only [Cert.ReferenceIdeal.Hand.fsEnd, Cert.ReferenceIdeal.Hand.keepEnd, f0, f1, f2] at h0 h1 h2
  obtain ⟨s0, s1, s2⟩ := Bridge.same (Cert.ReferenceIdeal.Hand.valsOf (Cert.KernelIdeal.Hand.arg1 m c))
    (Cert.ReferenceIdeal.Hand.takeBoxes (Cert.KernelIdeal.Hand.arg0 m c) (Cert.ReferenceIdeal.Hand.idxOf (Cert.KernelIdeal.Hand.arg1 m c)))
    (Cert.ReferenceIdeal.Hand.takeLabels (Cert.KernelIdeal.Hand.arg2 m c) (Cert.ReferenceIdeal.Hand.idxOf (Cert.KernelIdeal.Hand.arg1 m c)))
    (Cert.ReferenceIdeal.Hand.vals_desc _)
    (fun b j => by
      simp only [Cert.ReferenceIdeal.Hand.boxes_apply]
      exact Bridge.good_of_range _ _ _ (hpre c) b _)
  exact ⟨h0.trans s0, h1.trans s1, h2.trans s2, ha⟩

/-- Everything the certificate claims. -/
theorem claim : Cert.Claim := ⟨Cert.Kernel.Gen.facts, Cert.KernelIdeal.Gen.facts, Cert.ReferenceIdeal.Gen.facts, Cert.Pre_boxes_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Hand.frame m ρ, fun m ρ _ => Cert.ReferenceIdeal.Hand.frame m ρ, trivial, algebraic⟩

end Cert.Proof

end
